-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 4096]⟩ ⟨2, ![1024, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S256x4096 : Shape := ⟨2, ![256, 4096]⟩
abbrev S3x4x256x512 : Shape := ⟨4, ![3, 4, 256, 512]⟩
abbrev S3x4 : Shape := ⟨2, ![3, 4]⟩
abbrev S_ : Shape := ⟨0, ![]⟩
abbrev S1024x256 : Shape := ⟨2, ![1024, 256]⟩
abbrev S1024x512 : Shape := ⟨2, ![1024, 512]⟩
abbrev S256x512 : Shape := ⟨2, ![256, 512]⟩
abbrev S1x1x256x512 : Shape := ⟨4, ![1, 1, 256, 512]⟩
abbrev S1x1 : Shape := ⟨2, ![1, 1]⟩

abbrev nBuf : Space → Nat
  | .hbm => 3
  | .vmem => 8
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S256x4096, .f32⟩
  | .local _ .vmem, ⟨0, _⟩ => ⟨S1024x1024, .bf16⟩
  | .local _ .vmem, ⟨1, _⟩ => ⟨S1024x4096, .bf16⟩
  | .local _ .vmem, ⟨2, _⟩ => ⟨S256x4096, .f32⟩
  | .local _ .vmem, ⟨3, _⟩ => ⟨S1024x4096, .bf16⟩
  | .local _ .vmem, ⟨4, _⟩ => ⟨S3x4x256x512, .bf16⟩
  | .local _ .vmem, ⟨5, _⟩ => ⟨S3x4x256x512, .bf16⟩
  | .local _ .vmem, ⟨6, _⟩ => ⟨S3x4x256x512, .bf16⟩
  | .local _ .vmem, ⟨7, _⟩ => ⟨S3x4x256x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c3_i32 : BitVec 32) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.addi v2 c3_i32
  let c4_i32_10 : BitVec 32 := 4#32
  let v14 : BitVec 32 := Scalar.remsi v13 c4_i32_10
  let c256_i32 : BitVec 32 := 256#32
  let v17 : BitVec 32 := Scalar.muli v14 c256_i32
  let v18 : Index := Scalar.indexCast v17
  ![0, v18.toNat]
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_29 : BitVec 32 := 1#32
  let v31 : BitVec 32 := Scalar.muli v7 c1_i32_29
  let v32 : BitVec 32 := Scalar.addi c0_i32_30 v31
  v32.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_53 : BitVec 32 := 1#32
  let v55 : BitVec 32 := Scalar.muli v5 c1_i32_53
  let v56 : BitVec 32 := Scalar.addi c0_i32_54 v55
  v56.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_76 : BitVec 32 := 1#32
  let v79 : BitVec 32 := Scalar.muli v7 c1_i32_76
  let v80 : BitVec 32 := Scalar.addi c0_i32_77 v79
  v80.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_100 : BitVec 32 := 1#32
  let v103 : BitVec 32 := Scalar.muli v5 c1_i32_100
  let v104 : BitVec 32 := Scalar.addi c0_i32_101 v103
  v104.toNat
def k0_dev7 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_123 : BitVec 32 := 1#32
  let v127 : BitVec 32 := Scalar.muli v7 c1_i32_123
  let v128 : BitVec 32 := Scalar.addi c0_i32_124 v127
  v128.toNat
def k0_dev8 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_147 : BitVec 32 := 1#32
  let v151 : BitVec 32 := Scalar.muli v5 c1_i32_147
  let v152 : BitVec 32 := Scalar.addi c0_i32_148 v151
  v152.toNat
def k0_dev9 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_170 : BitVec 32 := 1#32
  let v175 : BitVec 32 := Scalar.muli v7 c1_i32_170
  let v176 : BitVec 32 := Scalar.addi c0_i32_171 v175
  v176.toNat
def k0_dev10 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_194 : BitVec 32 := 1#32
  let v199 : BitVec 32 := Scalar.muli v5 c1_i32_194
  let v200 : BitVec 32 := Scalar.addi c0_i32_195 v199
  v200.toNat
def k0_off2 (d0 : Dev nD) (c0_i32_201 : BitVec 32) : Fin 2 → Nat :=
  let c0_208 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_200 : BitVec 32 := 2#32
  let v209 : BitVec 32 := Scalar.addi v2 c2_i32_200
  let v210 : BitVec 32 := Scalar.subi v209 c0_i32_201
  let c4_i32_202 : BitVec 32 := 4#32
  let v211 : BitVec 32 := Scalar.addi v210 c4_i32_202
  let c4_i32_203 : BitVec 32 := 4#32
  let v212 : BitVec 32 := Scalar.remsi v211 c4_i32_203
  let c256_i32_207 : BitVec 32 := 256#32
  let v216 : BitVec 32 := Scalar.muli v212 c256_i32_207
  let v217 : Index := Scalar.indexCast v216
  ![0, v217.toNat]
def k0_off3 (d0 : Dev nD) (c0_i32_205 : BitVec 32) : Fin 2 → Nat :=
  let c0_213 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_204 : BitVec 32 := 2#32
  let v213 : BitVec 32 := Scalar.addi v2 c2_i32_204
  let v214 : BitVec 32 := Scalar.addi v213 c0_i32_205
  let c4_i32_206 : BitVec 32 := 4#32
  let v215 : BitVec 32 := Scalar.remsi v214 c4_i32_206
  let c256_i32_212 : BitVec 32 := 256#32
  let v222 : BitVec 32 := Scalar.muli v215 c256_i32_212
  let v223 : Index := Scalar.indexCast v222
  ![0, v223.toNat]
def k0_dev11 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_260 : BitVec 32 := 1#32
  let v250 : BitVec 32 := Scalar.muli v7 c1_i32_260
  let v251 : BitVec 32 := Scalar.addi c0_i32_261 v250
  v251.toNat
def k0_dev12 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_309 : BitVec 32 := 1#32
  let v282 : BitVec 32 := Scalar.muli v5 c1_i32_309
  let v283 : BitVec 32 := Scalar.addi c0_i32_310 v282
  v283.toNat
def k0_dev13 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_368 : BitVec 32 := 1#32
  let v326 : BitVec 32 := Scalar.muli v7 c1_i32_368
  let v327 : BitVec 32 := Scalar.addi c0_i32_369 v326
  v327.toNat
def k0_dev14 (d0 : Dev nD) : Nat :=
  let c0_i32_418 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_417 : BitVec 32 := 1#32
  let v358 : BitVec 32 := Scalar.muli v5 c1_i32_417
  let v359 : BitVec 32 := Scalar.addi c0_i32_418 v358
  v359.toNat
def k0_dev15 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_476 : BitVec 32 := 1#32
  let v402 : BitVec 32 := Scalar.muli v7 c1_i32_476
  let v403 : BitVec 32 := Scalar.addi c0_i32_477 v402
  v403.toNat
def k0_dev16 (d0 : Dev nD) : Nat :=
  let c0_i32_526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_525 : BitVec 32 := 1#32
  let v434 : BitVec 32 := Scalar.muli v5 c1_i32_525
  let v435 : BitVec 32 := Scalar.addi c0_i32_526 v434
  v435.toNat
def k0_dev17 (d0 : Dev nD) : Nat :=
  let c0_i32_585 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_584 : BitVec 32 := 1#32
  let v478 : BitVec 32 := Scalar.muli v7 c1_i32_584
  let v479 : BitVec 32 := Scalar.addi c0_i32_585 v478
  v479.toNat
def k0_dev18 (d0 : Dev nD) : Nat :=
  let c0_i32_634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_633 : BitVec 32 := 1#32
  let v510 : BitVec 32 := Scalar.muli v5 c1_i32_633
  let v511 : BitVec 32 := Scalar.addi c0_i32_634 v510
  v511.toNat
def k0_dev19 (d0 : Dev nD) : Nat :=
  let c0_i32_700 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_699 : BitVec 32 := 1#32
  let v561 : BitVec 32 := Scalar.muli v7 c1_i32_699
  let v562 : BitVec 32 := Scalar.addi c0_i32_700 v561
  v562.toNat
def k0_dev20 (d0 : Dev nD) : Nat :=
  let c0_i32_749 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_748 : BitVec 32 := 1#32
  let v593 : BitVec 32 := Scalar.muli v5 c1_i32_748
  let v594 : BitVec 32 := Scalar.addi c0_i32_749 v593
  v594.toNat
def k0_dev21 (d0 : Dev nD) : Nat :=
  let c0_i32_808 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_807 : BitVec 32 := 1#32
  let v637 : BitVec 32 := Scalar.muli v7 c1_i32_807
  let v638 : BitVec 32 := Scalar.addi c0_i32_808 v637
  v638.toNat
def k0_dev22 (d0 : Dev nD) : Nat :=
  let c0_i32_857 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_856 : BitVec 32 := 1#32
  let v669 : BitVec 32 := Scalar.muli v5 c1_i32_856
  let v670 : BitVec 32 := Scalar.addi c0_i32_857 v669
  v670.toNat
def k0_dev23 (d0 : Dev nD) : Nat :=
  let c0_i32_916 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_915 : BitVec 32 := 1#32
  let v713 : BitVec 32 := Scalar.muli v7 c1_i32_915
  let v714 : BitVec 32 := Scalar.addi c0_i32_916 v713
  v714.toNat
def k0_dev24 (d0 : Dev nD) : Nat :=
  let c0_i32_965 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_964 : BitVec 32 := 1#32
  let v745 : BitVec 32 := Scalar.muli v5 c1_i32_964
  let v746 : BitVec 32 := Scalar.addi c0_i32_965 v745
  v746.toNat
def k0_dev25 (d0 : Dev nD) : Nat :=
  let c0_i32_1024 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1023 : BitVec 32 := 1#32
  let v789 : BitVec 32 := Scalar.muli v7 c1_i32_1023
  let v790 : BitVec 32 := Scalar.addi c0_i32_1024 v789
  v790.toNat
def k0_dev26 (d0 : Dev nD) : Nat :=
  let c0_i32_1073 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1072 : BitVec 32 := 1#32
  let v821 : BitVec 32 := Scalar.muli v5 c1_i32_1072
  let v822 : BitVec 32 := Scalar.addi c0_i32_1073 v821
  v822.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .hbm, ⟨3, _⟩ => ⟨S1024x4096, .f32⟩
  | .hbm, ⟨4, _⟩ => ⟨S1024x4096, .bf16⟩
  | .hbm, ⟨5, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdealProtocol.lean ====
/-
# The exchange protocol of the ring reduce-scatter

Device `c` of the four sends 24 messages, numbered in program order `n = 8 h + q`: `h` is the stage (0, 1, 2), `q` the
column block (0 … 7); an even `q` travels right (to device `c + 1`), an odd one left (to device `c - 1`).

* Barrier cell of `c` (two units, one wait): the right neighbour signals it and hands over the twelve landing slots that
  `c`'s right-going messages fill there; the left neighbour signals it and hands over those of the left-going ones.
* Send cell of message `n` on `c`: the transfer of `n` credits it once its source is read; the wait on it gives `c` its
  source slot back.
* Receive cell of message `n` on `c`: the transfer that the source device issues credits it; the wait on it gives `c` its
  landing slot, holding the source's message `n`.

Messages are waited on in the order they are sent, and processing message `n < 16` sends message `n + 8`. While waiting
on message `n` a device owes the receive cells of messages `n + 8` and later only, which are all of a later stage, so
levels that grow with the stage exclude a cycle.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's rounds: duties named by a direction. -/
abbrev UB : Type := URounds (GSem nD τ sig) Bool
/-- The pipeline's rounds beside the exchange's. -/
abbrev UU : Type := UR sig nD τ × UB

local notation "𝕄" => MT nD τ sig Unit (Elt F) ℕ UU ℕ

/-- The pipeline's rounds in the algebra. -/
abbrev EP : Emb (UR sig nD τ) (MT nD τ sig Unit (Elt F) ℕ UU ℕ) := embL
/-- The exchange's rounds in the algebra. -/
abbrev ER : Emb UB (MT nD τ sig Unit (Elt F) ℕ UU ℕ) := embR

/-- The kernel calls nothing recursive. -/
abbrev 𝒱₀ : Variants := Variants.none

/-! ## The ring and its two directions -/

set_option backward.proofsInPublic true in
/-- The device `j` places after `c` on the ring. -/
def turn (c : Dev nD) (j : ℕ) : Dev nD := ⟨(c.val + j) % 4, Nat.mod_lt _ (by decide)⟩

/-- The direction of message (or column block) `n`: `false` right, `true` left. -/
def dir (n : ℕ) : Bool := n % 2 == 1

/-- Where device `c` sends in direction `d`. -/
def dst (d : Bool) (c : Dev nD) : Dev nD := turn c (if d then 3 else 1)
/-- Whence device `c` receives in direction `d`. -/
def src (d : Bool) (c : Dev nD) : Dev nD := turn c (if d then 1 else 3)

theorem src_dst (d : Bool) (c : Dev nD) : src d (dst d c) = c := by revert d c; decide
theorem dst_src (d : Bool) (c : Dev nD) : dst d (src d c) = c := by revert d c; decide

/-- Sending in direction `d` as a permutation of the devices. -/
def ring (d : Bool) : Dev nD ≃ Dev nD := ⟨dst d, src d, src_dst d, dst_src d⟩

theorem dir_add_eight (n : ℕ) : dir (n + 8) = dir n := by unfold dir; rw [Nat.add_mod]; simp
theorem dir_mod (n : ℕ) : dir (n % 8) = dir n := by
  unfold dir; rw [Nat.mod_mod_of_dvd n (by decide : 2 ∣ 8)]
theorem dir_even (i : ℕ) : dir (2 * i) = false := by unfold dir; simp
theorem dir_odd (i : ℕ) : dir (2 * i + 1) = true := by unfold dir; simp [Nat.add_mod]

/-! ## Semaphores and cells -/

set_option backward.proofsInPublic true in
/-- The semaphore a device's transfer of message `n` credits when its source is read. -/
def sendS (n : ℕ) : DmaSem sig := ⟨3 + 24 * (n % 2) + n / 2 % 12, by show _ < 51; omega⟩
set_option backward.proofsInPublic true in
/-- The semaphore the landing of message `n` credits. -/
def recvS (n : ℕ) : DmaSem sig := ⟨15 + 24 * (n % 2) + n / 2 % 12, by show _ < 51; omega⟩

/-- The barrier semaphore of the kernel's collective. -/
abbrev barS : Sem sig := (SemArray.scalar (sig.barrier 0 rfl) : Sems sig S_).sem

abbrev barCell (c : Dev nD) : GSem nD τ sig := ((c : Thread nD τ), .reg barS)
abbrev sendCell (n : ℕ) (c : Dev nD) : GSem nD τ sig := ((c : Thread nD τ), .dma (sendS n))
abbrev recvCell (n : ℕ) (c : Dev nD) : GSem nD τ sig := ((c : Thread nD τ), .dma (recvS n))

/-- The message a transfer semaphore belongs to. -/
def msgOf (s : DmaSem sig) : ℕ := 2 * ((s.val - 3) % 12) + (s.val - 3) / 24
/-- Whether a semaphore is a landing's. -/
def isRecv (s : DmaSem sig) : Bool := decide (3 ≤ s.val) && ((s.val - 3) / 12 % 2 == 1)
/-- Whether a semaphore is a source's. -/
def isSend (s : DmaSem sig) : Bool := decide (3 ≤ s.val) && ((s.val - 3) / 12 % 2 == 0)

theorem msgOf_sendS {n : ℕ} (h : n < 24) : msgOf (sendS n) = n := by
  revert n; decide
theorem msgOf_recvS {n : ℕ} (h : n < 24) : msgOf (recvS n) = n := by
  revert n; decide
theorem isRecv_recvS {n : ℕ} (h : n < 24) : isRecv (recvS n) = true := by
  revert n; decide
theorem isRecv_sendS {n : ℕ} (h : n < 24) : isRecv (sendS n) = false := by
  revert n; decide
theorem isSend_sendS {n : ℕ} (h : n < 24) : isSend (sendS n) = true := by
  revert n; decide

/-! ## The slots -/

/-- The buffer that direction `d`'s messages are sent from. -/
abbrev sendM : Bool → Memref sig .tc .vmem S3x4x256x512 .bf16
  | false => Memref.whole cc0_scratch1
  | true => Memref.whole cc0_scratch3
/-- The buffer that direction `d`'s messages land in. -/
abbrev recvM : Bool → Memref sig .tc .vmem S3x4x256x512 .bf16
  | false => Memref.whole cc0_scratch2
  | true => Memref.whole cc0_scratch4

/-- Where slot `i = 4 h + b` begins in its buffer. -/
abbrev slotOff (i : ℕ) : Fin 4 → ℕ := ![i / 4 % 3, i % 4, 0, 0]

theorem slotOff_inb (i : ℕ) : ∀ a, slotOff i a + S1x1x256x512.size a ≤ S3x4x256x512.size a := by
  intro a
  have h1 : i / 4 % 3 < 3 := Nat.mod_lt _ (by decide)
  have h2 : i % 4 < 4 := Nat.mod_lt _ (by decide)
  fin_cases a
  · show i / 4 % 3 + 1 ≤ 3; omega
  · show i % 4 + 1 ≤ 4; omega
  · show 0 + 256 ≤ 256; omega
  · show 0 + 512 ≤ 512; omega

/-- Slot `i` as a rectangle of its buffer. -/
abbrev slotR (i : ℕ) : Rect S3x4x256x512 := Rect.unit (s := S3x4x256x512) (slotOff i) S1x1x256x512.size (slotOff_inb i)

/-- Slot `i` of buffer `M`, as the transfers name it. -/
abbrev sq (M : Memref sig .tc .vmem S3x4x256x512 .bf16) (i : ℕ) : Memref sig .tc .vmem S256x512 .bf16 :=
  (M.slice (slotR i) (fun _ => rfl)).squeeze S256x512 squeezes_S1x1x256x512_S256x512

/-- A transfer's credit. -/
abbrev N : ℕ := (sq (sendM false) 0).view.dmaCredit
theorem N_pos : 0 < N := View.dmaCredit_pos _ (by decide)

/-- Device `c` holds slot `i` of `M` at contents `Y`. -/
def slot (c : Dev nD) (M : Memref sig .tc .vmem S3x4x256x512 .bf16) (i : ℕ) (Y : S256x512.Idx → Elt F .bf16) : sProp 𝕄 :=
  owns (c : Thread nD τ) (sq M i) fullShare Y
/-- Device `c` holds slot `i` of `M` at some contents. -/
def slotAny (c : Dev nD) (M : Memref sig .tc .vmem S3x4x256x512 .bf16) (i : ℕ) : sProp 𝕄 := iprop(∃ Y, slot (F := F) c M i Y)

instance slot_storable (c : Dev nD) (M) (i : ℕ) (Y) : BI.Storable (upEmb : UEmb _ 𝕄) (slot (F := F) c M i Y) := by
  unfold slot; infer_instance
instance slotAny_storable (c : Dev nD) (M) (i : ℕ) : BI.Storable (upEmb : UEmb _ 𝕄) (slotAny (F := F) c M i) := by
  unfold slotAny; infer_instance

/-! ## Contents -/

/-- Where column block `q` begins. -/
abbrev colOf (q : ℕ) : ℕ := q % 8 / 2 * 512 + q % 2 * 2048

theorem xCols_inb (k : Fin 4) : ∀ a, (![0, 256 * k.val] : Fin 2 → ℕ) a + S1024x256.size a ≤ S1024x1024.size a := by
  intro a; have := k.isLt
  fin_cases a
  · show 0 + 1024 ≤ 1024; omega
  · show 256 * k.val + 256 ≤ 1024; omega
theorem dyCols_inb (q : ℕ) : ∀ a, (![0, colOf q] : Fin 2 → ℕ) a + S1024x512.size a ≤ S1024x4096.size a := by
  intro a
  fin_cases a
  · show 0 + 1024 ≤ 1024; omega
  · show q % 8 / 2 * 512 + q % 2 * 2048 + 512 ≤ 4096; omega
theorem outCols_inb (q : ℕ) : ∀ a, (![0, colOf q] : Fin 2 → ℕ) a + S256x512.size a ≤ S256x4096.size a := by
  intro a
  fin_cases a
  · show 0 + 256 ≤ 256; omega
  · show q % 8 / 2 * 512 + q % 2 * 2048 + 512 ≤ 4096; omega

/-- Column chunk `k` (256 wide) of an `x` block. -/
abbrev xR (k : Fin 4) : Rect S1024x1024 := Rect.unit (s := S1024x1024) ![0, 256 * k.val] S1024x256.size (xCols_inb k)
/-- Column block `q` (512 wide) of a `dy` block. -/
abbrev dyR (q : ℕ) : Rect S1024x4096 := Rect.unit (s := S1024x4096) ![0, colOf q] S1024x512.size (dyCols_inb q)
/-- Column block `q` of the result. -/
abbrev outR (q : ℕ) : Rect S256x4096 := Rect.unit (s := S256x4096) ![0, colOf q] S256x512.size (outCols_inb q)

/-- The `x` column chunk whose product device `c` adds at stage `h`, in direction `d`. -/
def chunk (d : Bool) (h : ℕ) (c : Dev nD) : Fin 4 := turn c (if d then 1 + h else 7 - h)

/-- The product of two loaded blocks, over their rows, as the kernel takes it. -/
def mm (vx : Vec F S1024x256 .bf16) (vy : Vec F S1024x512 .bf16) : FVec F S256x512 .f32 :=
  matmul dot_S1024x256_S1024x512_S256x512_0_0_1_1_n_n none (shapeCast S1024x256 vx shapeCasts_S1024x256_S1024x256) vy
    (constant S256x512 .f32 0x00000000#32)

section Contents
variable (X : Dev nD → Vec F S1024x1024 .bf16) (Y : Dev nD → Vec F S1024x4096 .bf16)

/-- Device `c`'s own contribution to column block `q` at stage `h`. -/
def part (q h : ℕ) (c : Dev nD) : FVec F S256x512 .f32 :=
  mm (fun j => X c ((xR (chunk (dir q) h c)).emb j)) (fun j => Y c ((dyR q).emb j))

/-- The partial sum of column block `q` after stage `h` on device `c`: its own contribution, and what came from the
    neighbour, rounded for the journey. -/
def acc (q : ℕ) : ℕ → Dev nD → FVec F S256x512 .f32
  | 0, c => part X Y q 0 c
  | h + 1, c => addf (extf .f32 (truncf .bf16 (acc q h (src (dir q) c)) bitsLt_bf16_f32) bitsLt_bf16_f32) (part X Y q (h + 1) c)

/-- Message `n` as device `c` sends it. -/
def msg (n : ℕ) (c : Dev nD) : FVec F S256x512 .bf16 := truncf .bf16 (acc X Y (n % 8) (n / 8) c) bitsLt_bf16_f32

end Contents

/-! ## The schedule -/

section Schedule
variable (X : Dev nD → Vec F S1024x1024 .bf16) (Y : Dev nD → Vec F S1024x4096 .bf16)

/-- What the neighbour in direction `d` hands `c` with its signal: its twelve landing slots of that direction. -/
def barPay (c : Dev nD) (d : Bool) : sProp 𝕄 :=
  bigSep Finset.univ fun i : Fin 12 => slotAny (F := F) (dst d c) (recvM d) i.val
/-- What the wait on message `n`'s send cell gives back. -/
def sendPay (n : ℕ) (c : Dev nD) : sProp 𝕄 := slotAny (F := F) c (sendM (dir n)) (n / 2)
/-- What the wait on message `n`'s receive cell gives. -/
def recvPay (n : ℕ) (c : Dev nD) : sProp 𝕄 := slot c (recvM (dir n)) (n / 2) (msg X Y n (src (dir n) c))

instance barPay_storable (c : Dev nD) (d : Bool) : BI.Storable (upEmb : UEmb _ 𝕄) (barPay (F := F) c d) := by
  unfold barPay; infer_instance
instance sendPay_storable (n : ℕ) (c : Dev nD) : BI.Storable (upEmb : UEmb _ 𝕄) (sendPay (F := F) n c) := by
  unfold sendPay; infer_instance
instance recvPay_storable (n : ℕ) (c : Dev nD) : BI.Storable (upEmb : UEmb _ 𝕄) (recvPay X Y n c) := by
  unfold recvPay; infer_instance

/-- The duties of a semaphore's one round. -/
def dutiesOf : SemLoc sig → Finset Bool
  | .reg s => if s = barS then Finset.univ else ∅
  | .dma s => if isSend s || isRecv s then {false} else ∅
/-- A duty's units. -/
def amountOf : SemLoc sig → ℕ
  | .reg _ => 1
  | .dma _ => N
/-- A duty's payload on device `c`. -/
def payloadOf (c : Dev nD) (d : Bool) : SemLoc sig → sProp 𝕄
  | .reg _ => barPay (F := F) c d
  | .dma s => if isRecv s then recvPay X Y (msgOf s) c else sendPay (F := F) (msgOf s) c

theorem amountOf_pos (s : SemLoc sig) : 0 < amountOf s := by
  cases s
  · exact Nat.one_pos
  · exact N_pos

instance payloadOf_storable (c : Dev nD) (d : Bool) (s : SemLoc sig) : BI.Storable (upEmb : UEmb _ 𝕄) (payloadOf X Y c d s) := by
  cases s with
  | reg s => unfold payloadOf; infer_instance
  | dma s => unfold payloadOf; dsimp only; split <;> infer_instance

/-- One round, round 0, on every exchange cell of a TensorCore. -/
def rd : Rounds.Schedule (GSem nD τ sig) Bool 𝕄 where
  duties g r := if r = 0 ∧ g.1.2 = .tc then dutiesOf g.2 else ∅
  unitless _ := False
  amount g _ _ := amountOf g.2
  payload g _ d := payloadOf X Y g.1.1 d g.2
  amount_pos g _ _ _ := amountOf_pos g.2

instance rd_payload_storable (g : GSem nD τ sig) (r : ℕ) (d : Bool) :
    BI.Storable (upEmb : UEmb _ 𝕄) ((rd X Y).payload g r d) := payloadOf_storable X Y g.1.1 d g.2

section Tables
variable (c : Dev nD) {n : ℕ} (hn : n < 24)

theorem duties_bar : (rd X Y).duties (barCell c) 0 = Finset.univ := by
  dsimp only [rd]; rw [if_pos ⟨rfl, rfl⟩]; dsimp only [dutiesOf]; exact if_pos rfl
include hn in
theorem duties_send : (rd X Y).duties (sendCell n c) 0 = {false} := by
  dsimp only [rd]; rw [if_pos ⟨rfl, rfl⟩]; dsimp only [dutiesOf]; rw [isSend_sendS hn]; rfl
include hn in
theorem duties_recv : (rd X Y).duties (recvCell n c) 0 = {false} := by
  dsimp only [rd]; rw [if_pos ⟨rfl, rfl⟩]; dsimp only [dutiesOf]; rw [isRecv_recvS hn, Bool.or_true]; rfl
theorem duties_later (g : GSem nD τ sig) : ∀ r, 1 ≤ r → (rd X Y).duties g r = ∅ := by
  intro r hr; dsimp only [rd]; exact if_neg fun h => by omega

theorem expect_bar : (rd X Y).expect (barCell c) 0 = 2 := by
  unfold Schedule.expect Schedule.amountOf
  rw [duties_bar]; rfl
include hn in
theorem expect_send : (rd X Y).expect (sendCell n c) 0 = N := by
  unfold Schedule.expect Schedule.amountOf; rw [duties_send X Y c hn, Finset.sum_singleton]; rfl
include hn in
theorem expect_recv : (rd X Y).expect (recvCell n c) 0 = N := by
  unfold Schedule.expect Schedule.amountOf; rw [duties_recv X Y c hn, Finset.sum_singleton]; rfl

theorem payload_bar (d : Bool) : (rd X Y).payload (barCell c) 0 d = barPay (F := F) c d := rfl
include hn in
theorem payload_send (d : Bool) : (rd X Y).payload (sendCell n c) 0 d = sendPay (F := F) n c := by
  dsimp only [rd, payloadOf]; rw [isRecv_sendS hn, msgOf_sendS hn]; rfl
include hn in
theorem payload_recv (d : Bool) : (rd X Y).payload (recvCell n c) 0 d = recvPay X Y n c := by
  dsimp only [rd, payloadOf]; rw [isRecv_recvS hn, msgOf_recvS hn]; rfl

/-- Both payloads of the barrier cell's round. -/
theorem rest_bar : bigSep ((rd X Y).duties (barCell c) 0 \ ∅) (fun d => (rd X Y).payload (barCell c) 0 d)
    = iprop(barPay (F := F) c false ∗ barPay (F := F) c true) := by
  rw [Finset.sdiff_empty, duties_bar, bigSep_univ_eq_bigSepL [false, true] (by decide) (by decide), bigSepL_cons_cons, bigSepL_singleton]
  rfl
include hn in
theorem rest_send : bigSep ((rd X Y).duties (sendCell n c) 0 \ ∅) (fun d => (rd X Y).payload (sendCell n c) 0 d)
    = sendPay (F := F) n c := by
  rw [Finset.sdiff_empty, duties_send X Y c hn, bigSep_singleton, payload_send X Y c hn]
include hn in
theorem rest_recv : bigSep ((rd X Y).duties (recvCell n c) 0 \ ∅) (fun d => (rd X Y).payload (recvCell n c) 0 d)
    = recvPay X Y n c := by
  rw [Finset.sdiff_empty, duties_recv X Y c hn, bigSep_singleton, payload_recv X Y c hn]

end Tables
end Schedule

/-! ## What a device owes, and the levels -/

/-- With messages `s …` still to send, device `c` owes their receive cells a block's credit each. -/
def O (c : Dev nD) (s : ℕ) : CellTallies nD τ sig Unit :=
  ∑ i ∈ Finset.Ico s 24, tallyAt (recvCell i (dst (dir i) c)) () N

theorem O_succ (c : Dev nD) {s : ℕ} (h : s < 24) : O c s = O c (s + 1) + tallyAt (recvCell s (dst (dir s) c)) () N := by
  have e : Finset.Ico s 24 = insert s (Finset.Ico (s + 1) 24) := by
    ext i; simp only [Finset.mem_insert, Finset.mem_Ico]; omega
  unfold O; rw [e, Finset.sum_insert (by simp), add_comm]
theorem O_end (c : Dev nD) : O c 24 = 0 := by unfold O; simp

/-- At launch: that for every message, and a unit for each neighbour's barrier. -/
def O₁ (c : Dev nD) : CellTallies nD τ sig Unit := O c 0 + tallyAt (barCell (dst false c)) () 1
/-- At launch: all of it. -/
def O₀ (c : Dev nD) : CellTallies nD τ sig Unit := O₁ c + tallyAt (barCell (dst true c)) () 1

theorem O_pos {c : Dev nD} {s : ℕ} {g : GSem nD τ sig} {u : Unit} (h : 0 < O c s g u) :
    ∃ i, s ≤ i ∧ i < 24 ∧ g = recvCell i (dst (dir i) c) := by
  unfold O at h
  rw [Finset.sum_apply, Finsupp.finset_sum_apply] at h
  obtain ⟨i, hi, h'⟩ := Finset.exists_ne_zero_of_sum_ne_zero (Nat.pos_iff_ne_zero.mp h)
  rw [Finset.mem_Ico] at hi
  refine ⟨i, hi.1, hi.2, ?_⟩
  by_contra hne
  exact h' (by rw [tallyAt_apply, if_neg fun h => hne h.1])

theorem O₀_pos {c : Dev nD} {g : GSem nD τ sig} {u : Unit} (h : 0 < O₀ c g u) :
    (∃ i, i < 24 ∧ g = recvCell i (dst (dir i) c)) ∨ g = barCell (dst false c) ∨ g = barCell (dst true c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨i, _, hi, e⟩ := O_pos (by simpa using h)
  exact hn.1 ⟨i, hi, e⟩

/-- Every cell of a TensorCore is levelled. -/
def L (g : GSem nD τ sig) : Finset Unit := if g.1.2 = .tc then {()} else ∅
/-- A receive cell's level grows with its message's stage; the barrier's is below them, every other cell's lowest. -/
def lvOf : SemLoc sig → ℕ
  | .reg _ => 1
  | .dma s => if isRecv s then 2 + msgOf s / 8 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv {n : ℕ} (hn : n < 24) (c : Dev nD) (u : Unit) : lv (recvCell n c) u = 2 + n / 8 := by
  dsimp only [lv, lvOf]; rw [isRecv_recvS hn, msgOf_recvS hn]; rfl
theorem lv_bar (c : Dev nD) (u : Unit) : lv (barCell c) u = 1 := rfl

/-- A device may wait on any cell whose level is below the stage of every message it has still to send. -/
theorem mayWait_of (c : Dev nD) (sm : SemLoc sig) (s : ℕ) (h : lvOf sm ≤ 1 ∨ (8 ≤ s ∧ lvOf sm ≤ 2 + (s - 8) / 8)) :
    (levAts L lv : sProp 𝕄) ⊢ MayWait (c : Thread nD τ) sm () (O c s) :=
  MayOwe.of_cut (L := L) (lev := lv) (lvOf sm) (fun p hp => by rw [Finset.mem_singleton.mp hp, L_tc]; exact Finset.mem_singleton_self _)
    (fun g u hg => by
      obtain ⟨i, _, _, rfl⟩ := O_pos hg
      rw [L_tc]; exact Finset.mem_singleton_self _)
    (fun p hp => by rw [Finset.mem_singleton.mp hp]; exact le_refl _)
    (fun g u hg => by
      obtain ⟨i, hi, hi', rfl⟩ := O_pos hg
      rw [lv_recv hi']
      rcases h with h | ⟨h8, h⟩ <;> omega)

/-- A device may wait on a staging cell whatever it owes at launch. -/
theorem mayWait_stage (c : Dev nD) (q : DmaSem sig) (hq : isRecv q = false) (T : CellTallies nD τ sig Unit) (hT : T = O₀ c ∨ T = 0) :
    (levAts L lv : sProp 𝕄) ⊢ MayWait (c : Thread nD τ) (.dma q) () T := by
  rcases hT with rfl | rfl
  · refine MayOwe.of_cut (L := L) (lev := lv) 0 (fun p hp => by rw [Finset.mem_singleton.mp hp, L_tc]; exact Finset.mem_singleton_self _)
      (fun g u hg => by rcases O₀_pos hg with ⟨i, _, rfl⟩ | rfl | rfl <;> exact Finset.mem_singleton_self _)
      (fun p hp => by rw [Finset.mem_singleton.mp hp]; dsimp only [lv, lvOf]; rw [hq]; exact le_refl _)
      (fun g u hg => by
        rcases O₀_pos hg with ⟨i, hi, rfl⟩ | rfl | rfl
        · rw [lv_recv hi]; omega
        · rw [lv_bar]; decide
        · rw [lv_bar]; decide)
  · rw [MayWait_zero]; iintro -; iempintro

end Cert.KernelIdealProof

end
-- ==== Proof.KernelIdealSlots.lean ====
/-
# Loads, stores and shares of the exchange's buffers

A buffer of twelve slots is the twelve slots; a load of a slot and a store into it, read through the slot as the
transfers name it; and the column-block loads and stores of the four two-dimensional buffers.
-/
module

public import proofs.«01_k».proof.Proof.KernelIdealProtocol
public import Idealize.ShloMosaic.Lib.MemrefSat
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer as its twelve slots -/

/-- Two different slots share no element. -/
theorem slots_disjoint (i j : Fin 12) (h : i ≠ j) : Disjoint (slotR i.val).set (slotR j.val).set := by
  have hi := i.isLt
  have hj := j.isLt
  by_cases h0 : i.val / 4 = j.val / 4
  · refine Rect.disjoint_of_separated _ _ (1 : Fin 4) ?_
    have : i.val % 4 ≠ j.val % 4 := fun e => h (Fin.ext (by omega))
    show (1 = 0 ∨ i.val % 4 + 1 * (1 - 1) < j.val % 4) ∨ (1 = 0 ∨ j.val % 4 + 1 * (1 - 1) < i.val % 4)
    omega
  · refine Rect.disjoint_of_separated _ _ (0 : Fin 4) ?_
    show (1 = 0 ∨ i.val / 4 % 3 + 1 * (1 - 1) < j.val / 4 % 3) ∨ (1 = 0 ∨ j.val / 4 % 3 + 1 * (1 - 1) < i.val / 4 % 3)
    omega

/-- Every element of the buffer is in a slot. -/
theorem slots_cover : (Finset.univ : Finset (Fin 12)).biUnion (fun i => (slotR i.val).set) = Finset.univ := by
  ext x
  simp only [Finset.mem_biUnion, Finset.mem_univ, true_and, iff_true]
  have h0 : (x 0).val < 3 := (x 0).isLt
  have h1 : (x 1).val < 4 := (x 1).isLt
  have h2 : (x 2).val < 256 := (x 2).isLt
  have h3 : (x 3).val < 512 := (x 3).isLt
  refine ⟨⟨4 * (x 0).val + (x 1).val, by omega⟩, Rect.mem_set_unit.mpr fun a => ?_⟩
  have e0 : (4 * (x 0).val + (x 1).val) / 4 % 3 = (x 0).val := by omega
  have e1 : (4 * (x 0).val + (x 1).val) % 4 = (x 1).val := by omega
  fin_cases a
  · show (4 * (x 0).val + (x 1).val) / 4 % 3 ≤ (x 0).val ∧ (x 0).val < (4 * (x 0).val + (x 1).val) / 4 % 3 + 1
    rw [e0]; omega
  · show (4 * (x 0).val + (x 1).val) % 4 ≤ (x 1).val ∧ (x 1).val < (4 * (x 0).val + (x 1).val) % 4 + 1
    rw [e1]; omega
  · show 0 ≤ (x 2).val ∧ (x 2).val < 0 + 256; omega
  · show 0 ≤ (x 3).val ∧ (x 3).val < 0 + 512; omega

/-- A slot as a transfer names it has the elements of its rectangle. -/
theorem sq_set (M : Memref sig .tc .vmem S3x4x256x512 .bf16) (i : ℕ) : (sq M i).view.set = (M.view.slice (slotR i)).set :=
  View.set_reshape _ _

/-- A slot at some contents, as the elements of its rectangle. -/
theorem slotAny_eq (c : Dev nD) (M : Memref sig .tc .vmem S3x4x256x512 .bf16) (i : ℕ) :
    (slotAny (F := F) c M i : sProp 𝕄) = iprop(∃ f, (M.view.loc (c : Thread nD τ) ↦[(M.view.slice (slotR i)).set]{fullShare} f)) := by
  have h₁ : (slotAny (F := F) c M i : sProp 𝕄) ⊢ iprop(∃ f, (M.view.loc (c : Thread nD τ) ↦[(M.view.slice (slotR i)).set]{fullShare} f)) := by
    unfold slotAny slot owns
    iintro ⟨%Y, %f, -, H⟩
    iexists f
    rw [← sq_set]; iexact H
  have h₂ : iprop(∃ f, (M.view.loc (c : Thread nD τ) ↦[(M.view.slice (slotR i)).set]{fullShare} f)) ⊢ (slotAny (F := F) c M i : sProp 𝕄) := by
    unfold slotAny slot
    iintro ⟨%f, H⟩
    iexists ((sq M i).view.read (Elt F) f)
    iapply (owns_intro (c : Thread nD τ) (sq M i) fullShare f)
    rw [sq_set]; iexact H
  exact BI.equiv_iff.mp ⟨h₁, h₂⟩

/-- The elements of a slot's rectangle, at contents of the buffer, are the slot at some contents, -/
theorem slot_of_rect (c : Dev nD) (M : Memref sig .tc .vmem S3x4x256x512 .bf16) (i : ℕ) (f) :
    (owns (c : Thread nD τ) (M.slice (slotR i) (fun _ => rfl)) fullShare (fun j => M.view.read (Elt F) f ((slotR i).emb j)) : sProp 𝕄)
      ⊢ slotAny (F := F) c M i := by
  rw [slotAny_eq, owns_slice_read]
  exact exists_intro (Φ := fun f => (M.view.loc (c : Thread nD τ) ↦[(M.view.slice (slotR i)).set]{fullShare} f : sProp 𝕄)) f

/-- and the slot at some contents satisfies a share's trivial condition. -/
theorem sat_of_slot (c : Dev nD) (M : Memref sig .tc .vmem S3x4x256x512 .bf16) (i : ℕ) :
    (slotAny (F := F) c M i : sProp 𝕄) ⊢ ownsSat (c : Thread nD τ) (M.slice (slotR i) (fun _ => rfl)) fullShare (fun _ => True) := by
  rw [slotAny_eq]
  refine exists_elim fun f => ?_
  exact (owns_intro (c : Thread nD τ) (M.slice (slotR i) (fun _ => rfl)) fullShare f).trans
    (ownsSat_intro (c : Thread nD τ) (M.slice (slotR i) (fun _ => rfl)) fullShare (Φ := fun _ => True) trivial)

/-- A whole buffer is its twelve slots, -/
theorem slots_split (c : Dev nD) (M : Memref sig .tc .vmem S3x4x256x512 .bf16) :
    (iprop(∃ f, (M.view.loc (c : Thread nD τ) ↦[M.view.set]{fullShare} f)) : sProp 𝕄)
      ⊢ bigSep Finset.univ fun i : Fin 12 => slotAny (F := F) c M i.val := by
  refine exists_elim fun f => ?_
  rw [pointsTo_rects (c : Thread nD τ) M fullShare (fun i : Fin 12 => slotR i.val) (fun _ _ => rfl) slots_disjoint slots_cover f]
  exact bigSep_mono fun i _ => slot_of_rect c M i.val f

/-- and back. -/
theorem slots_join (c : Dev nD) (M : Memref sig .tc .vmem S3x4x256x512 .bf16) :
    (bigSep Finset.univ fun i : Fin 12 => slotAny (F := F) c M i.val)
      ⊢ (iprop(∃ f, (M.view.loc (c : Thread nD τ) ↦[M.view.set]{fullShare} f)) : sProp 𝕄) := by
  refine (bigSep_mono fun i _ => sat_of_slot c M i.val).trans ?_
  refine (ownsSat_of_rects (c : Thread nD τ) M fullShare (fun i : Fin 12 => slotR i.val) (fun _ _ => rfl) slots_disjoint slots_cover
    (fun _ _ => True)).trans ?_
  refine (ownsSat_elim (c : Thread nD τ) M fullShare _).trans ?_
  unfold owns
  iintro ⟨%X, -, %f, -, H⟩
  iexists f; iexact H

/-! ## Loads and stores of a slot -/

section Slot

/-- A load of a slot: the slot's contents, as the load's shape holds them. -/
theorem wp_slot_load (c : Dev nD) {M : Memref sig .tc .vmem S3x4x256x512 .bf16} {i : ℕ} {off : Fin 4 → ℕ} (hoff : off = slotOff i)
    {inb : ∀ a, off a + S1x1x256x512.size a ≤ S3x4x256x512.size a}
    {hl : M.view.LoadsAt (Rect.unit (s := S3x4x256x512) off S1x1x256x512.size inb).toLoadRect}
    {α : Type} {Q : α → sProp 𝕄} {k : Vec F S1x1x256x512 .bf16 → Prog (TpuEff nD τ sig (Elt F) Λ₀ .tc) α} (Y : S256x512.Idx → Elt F .bf16) :
    slot (F := F) c M i Y ⊢ iprop((∀ v, ⌜shapeCast S256x512 v shapeCasts_S1x1x256x512_S256x512 = Y⌝ -∗ slot (F := F) c M i Y
          -∗ wp frame (wpE (defs₀ (F := F)) 𝒱₀ (c : Thread nD τ) none) Set.univ (k v) Q)
        -∗ wp frame (wpE (defs₀ (F := F)) 𝒱₀ (c : Thread nD τ) none) Set.univ
          (.op (.load M (Rect.unit (s := S3x4x256x512) off S1x1x256x512.size inb).toLoadRect hl) k) Q) := by
  subst hoff
  have hS : (M.view.slice (slotR i)).set ⊆ (sq M i).view.set := by rw [sq_set]
  unfold slot owns
  iintro ⟨%f, %hf, H⟩ Hk
  iapply (wp_load_rect 𝒱₀ (c : Thread nD τ) none Set.univ (m := M) (r := slotR i) (S := (sq M i).view.set) hS) $$ H
  iintro H
  iapply Hk $$ %((M.access (slotR i)).read (Elt F) f) %hf
  iexists f
  isplitr; · ipureintro; exact hf
  iexact H

/-- A load of a slot whose value does not matter. -/
theorem wp_slot_peek (c : Dev nD) {M : Memref sig .tc .vmem S3x4x256x512 .bf16} {i : ℕ} {off : Fin 4 → ℕ} (hoff : off = slotOff i)
    {inb : ∀ a, off a + S1x1x256x512.size a ≤ S3x4x256x512.size a}
    {hl : M.view.LoadsAt (Rect.unit (s := S3x4x256x512) off S1x1x256x512.size inb).toLoadRect}
    {α : Type} {Q : α → sProp 𝕄} {k : Vec F S1x1x256x512 .bf16 → Prog (TpuEff nD τ sig (Elt F) Λ₀ .tc) α} :
    slotAny (F := F) c M i ⊢ iprop((∀ v, slotAny (F := F) c M i -∗ wp frame (wpE (defs₀ (F := F)) 𝒱₀ (c : Thread nD τ) none) Set.univ (k v) Q)
        -∗ wp frame (wpE (defs₀ (F := F)) 𝒱₀ (c : Thread nD τ) none) Set.univ
          (.op (.load M (Rect.unit (s := S3x4x256x512) off S1x1x256x512.size inb).toLoadRect hl) k) Q) := by
  unfold slotAny
  iintro ⟨%Y, H⟩ Hk
  iapply (wp_slot_load c hoff Y) $$ H
  iintro %v - H
  iapply Hk
  iexists Y
  iexact H

/-- A store into a slot. -/
theorem wp_slot_store (c : Dev nD) {M : Memref sig .tc .vmem S3x4x256x512 .bf16} {i : ℕ} {off : Fin 4 → ℕ} (hoff : off = slotOff i)
    {inb : ∀ a, off a + S1x1x256x512.size a ≤ S3x4x256x512.size a}
    {w : FVec F S1x1x256x512 .bf16} {hx : (M.access (Rect.unit (s := S3x4x256x512) off S1x1x256x512.size inb)).Stores Finset.univ}
    {hm : (Finset.univ : Finset (Rect.unit (s := S3x4x256x512) off S1x1x256x512.size inb).shape.Idx) = Finset.univ
      ∨ ∀ a, (Rect.unit (s := S3x4x256x512) off S1x1x256x512.size inb).stride a = 1}
    {α : Type} {Q : α → sProp 𝕄} {k : PUnit → Prog (TpuEff nD τ sig (Elt F) Λ₀ .tc) α} (Y : FVec F S256x512 .bf16)
    (hw : w = shapeCast S1x1x256x512 Y shapeCasts_S256x512_S1x1x256x512) :
    slotAny (F := F) c M i ⊢ iprop((slot (F := F) c M i Y
          -∗ wp frame (wpE (defs₀ (F := F)) 𝒱₀ (c : Thread nD τ) none) Set.univ (k ⟨⟩) Q)
        -∗ wp frame (wpE (defs₀ (F := F)) 𝒱₀ (c : Thread nD τ) none) Set.univ
          (.op (.store M (Rect.unit (s := S3x4x256x512) off S1x1x256x512.size inb) w Finset.univ hx hm) k) Q) := by
  subst hoff hw
  rw [slotAny_eq]
  iintro ⟨%f, H⟩ Hk
  iapply (wp_store 𝒱₀ (c : Thread nD τ) none Set.univ (m := M) (r := slotR i) (Mk := Finset.univ)
    (S := (M.view.slice (slotR i)).set) (Finset.Subset.refl _)) $$ H
  iintro H
  iapply Hk
  unfold slot owns
  iexists ((M.access (slotR i)).write (Elt F) f (shapeCast S1x1x256x512 Y shapeCasts_S256x512_S1x1x256x512) Finset.univ)
  isplitr
  · ipureintro
    refine (Memref.read_squeeze_slice M (slotR i) (fun _ => rfl) squeezes_S1x1x256x512_S256x512 shapeCasts_S1x1x256x512_S256x512 _).trans ?_
    rw [View.readAt_rect]
    refine (congrArg (fun u => shapeCast S256x512 u shapeCasts_S1x1x256x512_S256x512) (View.read_write_univ (v := M.view.slice (slotR i)) f _)).trans ?_
    exact shapeCast_shapeCast _ _ _
  · rw [sq_set]; iexact H

end Slot

/-! ## Column blocks of a whole two-dimensional buffer -/

section Cols
/-- Device `c` holds the whole of buffer `b` at contents `f`. -/
abbrev whole (c : Dev nD) (b : Ref sig .tc) (f : b.ty.Contents (Elt F)) : sProp 𝕄 := (((c : Thread nD τ).loc b) ↦{fullShare} f)

/-- What a buffer holds after a store of `w` through a rectangle: `w` on it, what was there before elsewhere. -/
theorem write_cases (b : Ref sig .tc) (r : Rect b.ty.shape) (f T : b.ty.Contents (Elt F)) (w : r.shape.Idx → Elt F b.ty.elt)
    (hw : ∀ j, w j = T (r.emb j)) (i : b.ty.Idx) :
    ((Memref.whole b).access r : View sig .tc _ _ _).write (Elt F) f w Finset.univ i = T i
      ∨ ((Memref.whole b).access r : View sig .tc _ _ _).write (Elt F) f w Finset.univ i = f i := by
  by_cases h : i ∈ ((Memref.whole b).access r : View sig .tc _ _ _).setOn Finset.univ
  · obtain ⟨j, _, rfl⟩ := Finset.mem_map.mp h
    left
    refine (View.write_emb_of_mem (v := ((Memref.whole b).access r : View sig .tc _ _ _)) f w (Finset.mem_univ j)).trans ?_
    exact hw j
  · right; exact View.write_of_not_mem _ _ _ h

/-- and on the rectangle it is `w`. -/
theorem write_on (b : Ref sig .tc) (r : Rect b.ty.shape) (f T : b.ty.Contents (Elt F)) (w : r.shape.Idx → Elt F b.ty.elt)
    (hw : ∀ j, w j = T (r.emb j)) (j : r.shape.Idx) :
    ((Memref.whole b).access r : View sig .tc _ _ _).write (Elt F) f w Finset.univ (r.emb j) = T (r.emb j) :=
  (View.write_emb_of_mem (v := ((Memref.whole b).access r : View sig .tc _ _ _)) f w (Finset.mem_univ j)).trans (hw j)

end Cols

end Cert.KernelIdealProof

end
-- ==== Proof.KernelIdealSteps.lean ====
/-
# One device's state between two effects, and the effects

`St c t p s a b o` is everything device `c` holds while it has copied `t` column blocks of `dy`, prepared `p` messages,
sent `s`, waited on the send cells of `a` and on the receive cells of `b`, and written `o` column blocks of the result.
Each theorem takes one effect from the state before it to the state after it.
-/
module

public import proofs.«01_k».proof.Proof.KernelIdealSlots
public import Idealize.SL.BI.BigOpNat

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Names of the cells -/

/-- A device's cells: its barrier cell, and a send and a receive cell for each message. -/
abbrev Key : Type := Option (Fin 24 × Bool)
/-- The semaphore of a device's cell. -/
def keySem : Key → SemLoc sig
  | none => .reg barS
  | some (n, false) => .dma (sendS n.val)
  | some (n, true) => .dma (recvS n.val)
/-- A cell of the exchange. -/
def kcell (p : Dev nD × Key) : GSem nD τ sig := ((p.1 : Thread nD τ), keySem p.2)

variable (X : Dev nD → Vec F S1024x1024 .bf16) (Y : Dev nD → Vec F S1024x4096 .bf16) (K : Dev nD × Key → ℕ)

/-- Every cell's invariant, and that round 0 of it is reached. -/
def records : sProp 𝕄 :=
  bigSep Finset.univ fun p : Dev nD × Key => iprop(cellInv ER (rd X Y) (K p) (kcell p) ∗ reached ER (kcell p) 0)
instance records_persistent : BI.Persistent (records X Y K) := by unfold records; infer_instance

/-- One cell's. -/
theorem records_at (p : Dev nD × Key) :
    records X Y K ⊢ iprop(cellInv ER (rd X Y) (K p) (kcell p) ∗ reached ER (kcell p) 0) :=
  bigSep_elim (Finset.mem_univ p)
theorem records_send {n : ℕ} (hn : n < 24) (c : Dev nD) :
    records X Y K ⊢ iprop(cellInv ER (rd X Y) (K (c, some (⟨n, hn⟩, false))) (sendCell n c) ∗ reached ER (sendCell n c) 0) :=
  records_at X Y K (c, some (⟨n, hn⟩, false))
theorem records_recv {n : ℕ} (hn : n < 24) (c : Dev nD) :
    records X Y K ⊢ iprop(cellInv ER (rd X Y) (K (c, some (⟨n, hn⟩, true))) (recvCell n c) ∗ reached ER (recvCell n c) 0) :=
  records_at X Y K (c, some (⟨n, hn⟩, true))
theorem records_bar (c : Dev nD) :
    records X Y K ⊢ iprop(cellInv ER (rd X Y) (K (c, none)) (barCell c) ∗ reached ER (barCell c) 0) :=
  records_at X Y K (c, none)

/-! ## The parts of the state -/

/-- The result's contents on device `c`: at a column of block `q`, that block's full sum. -/
def outAt (c : Dev nD) : S256x4096.Idx → Elt F .f32 := fun i =>
  acc X Y (if (i 1).val < 2048 then 2 * ((i 1).val / 512) else 2 * (((i 1).val - 2048) / 512) + 1) 3 c
    (fun a => match a with
      | ⟨0, _⟩ => i 0
      | ⟨1, _⟩ => ⟨(i 1).val % 512, Nat.mod_lt _ (by decide)⟩)

/-- What device `c` needs to send message `n`, besides its contents: the landing slot and both cells' duties. -/
def toSend (c : Dev nD) (n : ℕ) : sProp 𝕄 :=
  iprop(slotAny (F := F) (dst (dir n) c) (recvM (dir n)) (n / 2) ∗ dutyTok ER (sendCell n c) 0 false
    ∗ dutyTok ER (recvCell n (dst (dir n) c)) 0 false)
/-- The credit with which it waits on the send cell. -/
def sendCred (c : Dev nD) (n : ℕ) : sProp 𝕄 := cred (tallyAt (sendCell n c) () N)
/-- The place of the send cell. -/
def sendAt (c : Dev nD) (n : ℕ) : sProp 𝕄 := atPos ER (sendCell n c) 0 ∅ 0
/-- The place of the receive cell and the credit with which it waits there. -/
def recvAt (c : Dev nD) (n : ℕ) : sProp 𝕄 := iprop(atPos ER (recvCell n c) 0 ∅ 0 ∗ cred (tallyAt (recvCell n c) () N))
/-- A prepared message. -/
def ready (c : Dev nD) (n : ℕ) : sProp 𝕄 := slot c (sendM (dir n)) (n / 2) (msg X Y n c)
/-- A source slot to be filled. -/
def blank (c : Dev nD) (n : ℕ) : sProp 𝕄 := slotAny (F := F) c (sendM (dir n)) (n / 2)
/-- After the wait on the send cell. -/
def sent (c : Dev nD) (n : ℕ) : sProp 𝕄 := iprop(slotAny (F := F) c (sendM (dir n)) (n / 2) ∗ semVal (sendCell n c) 0)
/-- After the wait on the receive cell. -/
def got (c : Dev nD) (n : ℕ) : sProp 𝕄 :=
  iprop(slot c (recvM (dir n)) (n / 2) (msg X Y n (src (dir n) c)) ∗ semVal (recvCell n c) 0)
/-- The copy of `dy`, its first `t` column blocks made. -/
def dyCopy (c : Dev nD) (t : ℕ) : sProp 𝕄 :=
  iprop(∃ f : S1024x4096.Idx → Elt F .bf16, ⌜∀ q < t, q < 8 → ∀ j, f ((dyR q).emb j) = Y c ((dyR q).emb j)⌝ ∗ whole c cc0_scratch0 f)
/-- The result, its first `o` column blocks written. -/
def outPart (c : Dev nD) (o : ℕ) : sProp 𝕄 :=
  iprop(∃ f : S256x4096.Idx → Elt F .f32, ⌜∀ q < o, q < 8 → ∀ j, f ((outR q).emb j) = outAt X Y c ((outR q).emb j)⌝ ∗ whole c cc0_stg2_0 f)
/-- What it owes with messages `s …` still to send. -/
def owing (c : Dev nD) (s : ℕ) : sProp 𝕄 := iprop(∃ W, owes (c : Thread nD τ) (O c s) W)

/-- All of it. -/
def St (c : Dev nD) (t p s a b o : ℕ) : sProp 𝕄 :=
  iprop(records X Y K ∗ levAts L lv ∗ owing (F := F) c s
    ∗ bigSep (Finset.Ico s 24) (toSend (F := F) c) ∗ bigSep (Finset.Ico a s) (sendCred (F := F) c)
    ∗ bigSep (Finset.Ico a 24) (sendAt (F := F) c) ∗ bigSep (Finset.Ico b 24) (recvAt (F := F) c)
    ∗ bigSep (Finset.Ico p 24) (blank (F := F) c) ∗ bigSep (Finset.Ico s p) (ready X Y c)
    ∗ bigSep (Finset.range a) (sent (F := F) c) ∗ bigSep (Finset.range b) (got X Y c)
    ∗ whole c cc0_stg0_0 (X c) ∗ whole c cc0_stg1_0 (Y c) ∗ dyCopy Y c t ∗ outPart X Y c o
    ∗ semVal (barCell c) 0)

/-! ## The effects -/

section Effects
variable {c : Dev nD} {t p s a b o : ℕ}

/-- A load of a column chunk of the `x` block. -/
theorem load_x {off : Fin 2 → ℕ} {inb : ∀ a, off a + S1024x256.size a ≤ S1024x1024.size a}
    {hl : (Memref.whole cc0_stg0_0 : Memref sig .tc .vmem S1024x1024 .bf16).view.LoadsAt (Rect.unit (s := S1024x1024) off S1024x256.size inb).toLoadRect}
    {α : Type} {Q : α → sProp 𝕄} {k : Vec F S1024x256 .bf16 → Prog (TpuEff nD τ sig (Elt F) Λ₀ .tc) α} (ch : Fin 4) (hoff : off = ![0, 256 * ch.val])
    (h : St X Y K c t p s a b o ⊢ wp frame (wpE (defs₀ (F := F)) 𝒱₀ (c : Thread nD τ) none) Set.univ (k fun j => X c ((xR ch).emb j)) Q) :
    St X Y K c t p s a b o ⊢ wp frame (wpE (defs₀ (F := F)) 𝒱₀ (c : Thread nD τ) none) Set.univ
      (.op (.load (Memref.whole cc0_stg0_0) (Rect.unit (s := S1024x1024) off S1024x256.size inb).toLoadRect hl) k) Q := by
  subst hoff
  unfold St at h ⊢
  iintro ⟨Hr, Hl, Ho, H1, H2, H3, H4, H5, H6, H7, H8, Hx, H9⟩
  iapply (wp_load_rect 𝒱₀ (c : Thread nD τ) none Set.univ (m := Memref.whole cc0_stg0_0) (r := xR ch) (Finset.subset_univ _)) $$ Hx
  iintro Hx
  iapply h
  iframe

/-- A load of a column block of the `dy` block. -/
theorem load_dy {off : Fin 2 → ℕ} {inb : ∀ a, off a + S1024x512.size a ≤ S1024x4096.size a}
    {hl : (Memref.whole cc0_stg1_0 : Memref sig .tc .vmem S1024x4096 .bf16).view.LoadsAt (Rect.unit (s := S1024x4096) off S1024x512.size inb).toLoadRect}
    {α : Type} {Q : α → sProp 𝕄} {k : Vec F S1024x512 .bf16 → Prog (TpuEff nD τ sig (Elt F) Λ₀ .tc) α} (q : ℕ) (hoff : off = ![0, colOf q])
    (h : St X Y K c t p s a b o ⊢ wp frame (wpE (defs₀ (F := F)) 𝒱₀ (c : Thread nD τ) none) Set.univ (k fun j => Y c ((dyR q).emb j)) Q) :
    St X Y K c t p s a b o ⊢ wp frame (wpE (defs₀ (F := F)) 𝒱₀ (c : Thread nD τ) none) Set.univ
      (.op (.load (Memref.whole cc0_stg1_0) (Rect.unit (s := S1024x4096) off S1024x512.size inb).toLoadRect hl) k) Q := by
  subst hoff
  unfold St at h ⊢
  iintro ⟨Hr, Hl, Ho, H1, H2, H3, H4, H5, H6, H7, H8, H9, Hx, H10⟩
  iapply (wp_load_rect 𝒱₀ (c : Thread nD τ) none Set.univ (m := Memref.whole cc0_stg1_0) (r := dyR q) (Finset.subset_univ _)) $$ Hx
  iintro Hx
  iapply h
  iframe

/-- A load of the `dy` copy whose value does not matter. -/
theorem peek_copy {off : Fin 2 → ℕ} {inb : ∀ a, off a + S1024x512.size a ≤ S1024x4096.size a}
    {hl : (Memref.whole cc0_scratch0 : Memref sig .tc .vmem S1024x4096 .bf16).view.LoadsAt (Rect.unit (s := S1024x4096) off S1024x512.size inb).toLoadRect}
    {α : Type} {Q : α → sProp 𝕄} {k : Prog (TpuEff nD τ sig (Elt F) Λ₀ .tc) α}
    (h : St X Y K c t p s a b o ⊢ wp frame (wpE (defs₀ (F := F)) 𝒱₀ (c : Thread nD τ) none) Set.univ k Q) :
    St X Y K c t p s a b o ⊢ wp frame (wpE (defs₀ (F := F)) 𝒱₀ (c : Thread nD τ) none) Set.univ
      (.op (.load (Memref.whole cc0_scratch0) (Rect.unit (s := S1024x4096) off S1024x512.size inb).toLoadRect hl) fun _ : Vec F S1024x512 .bf16 => k) Q := by
  unfold St dyCopy at h ⊢
  iintro ⟨Hr, Hl, Ho, H1, H2, H3, H4, H5, H6, H7, H8, H9, H10, ⟨%f, %hf, Hx⟩, H11⟩
  iapply (wp_load_rect 𝒱₀ (c : Thread nD τ) none Set.univ (m := Memref.whole cc0_scratch0) (r := Rect.unit (s := S1024x4096) off S1024x512.size inb) (Finset.subset_univ _)) $$ Hx
  iintro Hx
  iapply h
  iframe
  iexists f
  isplitr; · ipureintro; exact hf
  iexact Hx

/-- A load of a copied column block. -/
theorem load_copy {off : Fin 2 → ℕ} {inb : ∀ a, off a + S1024x512.size a ≤ S1024x4096.size a}
    {hl : (Memref.whole cc0_scratch0 : Memref sig .tc .vmem S1024x4096 .bf16).view.LoadsAt (Rect.unit (s := S1024x4096) off S1024x512.size inb).toLoadRect}
    {α : Type} {Q : α → sProp 𝕄} {k : Vec F S1024x512 .bf16 → Prog (TpuEff nD τ sig (Elt F) Λ₀ .tc) α} (q : ℕ) (hoff : off = ![0, colOf q]) (hq : q < t) (hq8 : q < 8)
    (h : St X Y K c t p s a b o ⊢ wp frame (wpE (defs₀ (F := F)) 𝒱₀ (c : Thread nD τ) none) Set.univ (k fun j => Y c ((dyR q).emb j)) Q) :
    St X Y K c t p s a b o ⊢ wp frame (wpE (defs₀ (F := F)) 𝒱₀ (c : Thread nD τ) none) Set.univ
      (.op (.load (Memref.whole cc0_scratch0) (Rect.unit (s := S1024x4096) off S1024x512.size inb).toLoadRect hl) k) Q := by
  subst hoff
  unfold St dyCopy at h ⊢
  iintro ⟨Hr, Hl, Ho, H1, H2, H3, H4, H5, H6, H7, H8, H9, H10, ⟨%f, %hf, Hx⟩, H11⟩
  iapply (wp_load_rect 𝒱₀ (c : Thread nD τ) none Set.univ (m := Memref.whole cc0_scratch0) (r := dyR q) (Finset.subset_univ _)) $$ Hx
  have e : ((Memref.whole cc0_scratch0 : Memref sig .tc .vmem S1024x4096 .bf16).access (dyR q)).read (Elt F) f = fun j => Y c ((dyR q).emb j) :=
    funext fun j => hf q hq hq8 j
  rw [e]
  iintro Hx
  iapply h
  iframe
  iexists f
  isplitr; · ipureintro; exact hf
  iexact Hx

/-- The copy's next column block is stored. -/
theorem store_copy {off : Fin 2 → ℕ} {inb : ∀ a, off a + S1024x512.size a ≤ S1024x4096.size a} {w : Vec F S1024x512 .bf16}
    {hx : ((Memref.whole cc0_scratch0 : Memref sig .tc .vmem S1024x4096 .bf16).access (Rect.unit (s := S1024x4096) off S1024x512.size inb)).Stores Finset.univ}
    {hm : (Finset.univ : Finset (Rect.unit (s := S1024x4096) off S1024x512.size inb).shape.Idx) = Finset.univ
      ∨ ∀ a, (Rect.unit (s := S1024x4096) off S1024x512.size inb).stride a = 1}
    {α : Type} {Q : α → sProp 𝕄} {k : PUnit → Prog (TpuEff nD τ sig (Elt F) Λ₀ .tc) α} (hoff : off = ![0, colOf t]) (hw : w = fun j => Y c ((dyR t).emb j))
    (h : St X Y K c (t + 1) p s a b o ⊢ wp frame (wpE (defs₀ (F := F)) 𝒱₀ (c : Thread nD τ) none) Set.univ (k ⟨⟩) Q) :
    St X Y K c t p s a b o ⊢ wp frame (wpE (defs₀ (F := F)) 𝒱₀ (c : Thread nD τ) none) Set.univ
      (.op (.store (Memref.whole cc0_scratch0) (Rect.unit (s := S1024x4096) off S1024x512.size inb) w Finset.univ hx hm) k) Q := by
  subst hoff hw
  unfold St dyCopy at h ⊢
  iintro ⟨Hr, Hl, Ho, H1, H2, H3, H4, H5, H6, H7, H8, H9, H10, ⟨%f, %hf, Hx⟩, H11⟩
  iapply (wp_store 𝒱₀ (c : Thread nD τ) none Set.univ (m := Memref.whole cc0_scratch0) (r := dyR t) (Mk := Finset.univ) (Finset.subset_univ _)) $$ Hx
  iintro Hx
  iapply h
  iframe
  iexists (((Memref.whole cc0_scratch0 : Memref sig .tc .vmem S1024x4096 .bf16).access (dyR t)).write (Elt F) f (fun j => Y c ((dyR t).emb j)) Finset.univ)
  isplitr
  · ipureintro
    intro q hq hq8 j
    rcases Nat.lt_succ_iff_lt_or_eq.mp hq with h' | rfl
    · rcases write_cases cc0_scratch0 (dyR t) f (Y c) (fun j => Y c ((dyR t).emb j)) (fun _ => rfl) ((dyR q).emb j) with e | e
      · exact e
      · exact e.trans (hf q h' hq8 j)
    · exact write_on cc0_scratch0 (dyR q) f (Y c) _ (fun _ => rfl) j
  iexact Hx

/-- A load of the result's buffer whose value does not matter. -/
theorem peek_out {off : Fin 2 → ℕ} {inb : ∀ a, off a + S256x512.size a ≤ S256x4096.size a}
    {hl : (Memref.whole cc0_stg2_0 : Memref sig .tc .vmem S256x4096 .f32).view.LoadsAt (Rect.unit (s := S256x4096) off S256x512.size inb).toLoadRect}
    {α : Type} {Q : α → sProp 𝕄} {k : Vec F S256x512 .f32 → Prog (TpuEff nD τ sig (Elt F) Λ₀ .tc) α}
    (h : ∀ v, St X Y K c t p s a b o ⊢ wp frame (wpE (defs₀ (F := F)) 𝒱₀ (c : Thread nD τ) none) Set.univ (k v) Q) :
    St X Y K c t p s a b o ⊢ wp frame (wpE (defs₀ (F := F)) 𝒱₀ (c : Thread nD τ) none) Set.univ
      (.op (.load (Memref.whole cc0_stg2_0) (Rect.unit (s := S256x4096) off S256x512.size inb).toLoadRect hl) k) Q := by
  unfold St outPart at h ⊢
  iintro ⟨Hr, Hl, Ho, H1, H2, H3, H4, H5, H6, H7, H8, H9, H10, H12, ⟨%f, %hf, Hx⟩, H11⟩
  iapply (wp_load_rect 𝒱₀ (c : Thread nD τ) none Set.univ (m := Memref.whole cc0_stg2_0) (r := Rect.unit (s := S256x4096) off S256x512.size inb) (Finset.subset_univ _)) $$ Hx
  iintro Hx
  iapply h
  iframe
  iexists f
  isplitr; · ipureintro; exact hf
  iexact Hx

/-- The result's contents on a column block. -/
theorem outAt_block (c : Dev nD) {q : ℕ} (hq : q < 8) (j : S256x512.Idx) : outAt X Y c ((outR q).emb j) = acc X Y q 3 c j := by
  have h1 : (j 1).val < 512 := (j 1).isLt
  have e0 : (((outR q).emb j) 0).val = (j 0).val := by
    show 0 + 1 * (j 0).val = _; omega
  have e1 : (((outR q).emb j) 1).val = q % 8 / 2 * 512 + q % 2 * 2048 + (j 1).val := by
    show q % 8 / 2 * 512 + q % 2 * 2048 + 1 * (j 1).val = _; rw [Nat.one_mul]
  unfold outAt
  have eq' : (if (((outR q).emb j) 1).val < 2048 then 2 * ((((outR q).emb j) 1).val / 512)
      else 2 * (((((outR q).emb j) 1).val - 2048) / 512) + 1) = q := by
    rw [e1]; clear e0 e1
    generalize (j 1).val = x at h1 ⊢
    rcases Nat.mod_two_eq_zero_or_one q with e | e
    · rw [e, if_pos (by omega)]; omega
    · rw [e, if_neg (by omega)]; omega
  rw [eq']
  congr 1
  funext a
  fin_cases a
  · exact Fin.ext e0
  · refine Fin.ext ?_
    show (((outR q).emb j) 1).val % 512 = (j 1).val
    rw [e1]; clear e0 e1 eq'
    generalize (j 1).val = x at h1 ⊢
    omega

/-- The next column block of the result is stored. -/
theorem store_out {off : Fin 2 → ℕ} {inb : ∀ a, off a + S256x512.size a ≤ S256x4096.size a} {w : Vec F S256x512 .f32}
    {hx : ((Memref.whole cc0_stg2_0 : Memref sig .tc .vmem S256x4096 .f32).access (Rect.unit (s := S256x4096) off S256x512.size inb)).Stores Finset.univ}
    {hm : (Finset.univ : Finset (Rect.unit (s := S256x4096) off S256x512.size inb).shape.Idx) = Finset.univ
      ∨ ∀ a, (Rect.unit (s := S256x4096) off S256x512.size inb).stride a = 1}
    {α : Type} {Q : α → sProp 𝕄} {k : PUnit → Prog (TpuEff nD τ sig (Elt F) Λ₀ .tc) α} (ho : o < 8) (hoff : off = ![0, colOf o]) (hw : w = acc X Y o 3 c)
    (h : St X Y K c t p s a b (o + 1) ⊢ wp frame (wpE (defs₀ (F := F)) 𝒱₀ (c : Thread nD τ) none) Set.univ (k ⟨⟩) Q) :
    St X Y K c t p s a b o ⊢ wp frame (wpE (defs₀ (F := F)) 𝒱₀ (c : Thread nD τ) none) Set.univ
      (.op (.store (Memref.whole cc0_stg2_0) (Rect.unit (s := S256x4096) off S256x512.size inb) w Finset.univ hx hm) k) Q := by
  subst hoff hw
  have hT : ∀ j, acc X Y o 3 c j = outAt X Y c ((outR o).emb j) := fun j => (outAt_block X Y c ho j).symm
  unfold St outPart at h ⊢
  iintro ⟨Hr, Hl, Ho, H1, H2, H3, H4, H5, H6, H7, H8, H9, H10, H12, ⟨%f, %hf, Hx⟩, H11⟩
  iapply (wp_store 𝒱₀ (c : Thread nD τ) none Set.univ (m := Memref.whole cc0_stg2_0) (r := outR o) (Mk := Finset.univ) (Finset.subset_univ _)) $$ Hx
  iintro Hx
  iapply h
  iframe
  iexists (((Memref.whole cc0_stg2_0 : Memref sig .tc .vmem S256x4096 .f32).access (outR o)).write (Elt F) f (acc X Y o 3 c) Finset.univ)
  isplitr
  · ipureintro
    intro q hq hq8 j
    rcases Nat.lt_succ_iff_lt_or_eq.mp hq with h' | rfl
    · rcases write_cases cc0_stg2_0 (outR o) f (outAt X Y c) (acc X Y o 3 c) hT ((outR q).emb j) with e | e
      · exact e
      · exact e.trans (hf q h' hq8 j)
    · exact write_on cc0_stg2_0 (outR q) f (outAt X Y c) _ hT j
  iexact Hx

/-- A load of the next message's slot whose value does not matter. -/
theorem peek_send (hp : p < 24) {M : Memref sig .tc .vmem S3x4x256x512 .bf16} (hM : M = sendM (dir p)) {off : Fin 4 → ℕ} (hoff : off = slotOff (p / 2))
    {inb : ∀ a, off a + S1x1x256x512.size a ≤ S3x4x256x512.size a}
    {hl : M.view.LoadsAt (Rect.unit (s := S3x4x256x512) off S1x1x256x512.size inb).toLoadRect}
    {α : Type} {Q : α → sProp 𝕄} {k : Vec F S1x1x256x512 .bf16 → Prog (TpuEff nD τ sig (Elt F) Λ₀ .tc) α}
    (h : ∀ v, St X Y K c t p s a b o ⊢ wp frame (wpE (defs₀ (F := F)) 𝒱₀ (c : Thread nD τ) none) Set.univ (k v) Q) :
    St X Y K c t p s a b o ⊢ wp frame (wpE (defs₀ (F := F)) 𝒱₀ (c : Thread nD τ) none) Set.univ
      (.op (.load M (Rect.unit (s := S3x4x256x512) off S1x1x256x512.size inb).toLoadRect hl) k) Q := by
  subst hM
  unfold St at h ⊢
  rw [bigSep_Ico_succ_bot hp (blank (F := F) c), blank] at h ⊢
  iintro ⟨Hr, Hl, Ho, H1, H2, H3, H4, ⟨Hx, H5⟩, H6⟩
  iapply (wp_slot_peek c hoff) $$ Hx
  iintro %v Hx
  iapply (h v)
  iframe

/-- The next message is stored into its slot. -/
theorem store_send (hp : p < 24) (hs : s ≤ p) {M : Memref sig .tc .vmem S3x4x256x512 .bf16} (hM : M = sendM (dir p)) {off : Fin 4 → ℕ} (hoff : off = slotOff (p / 2))
    {inb : ∀ a, off a + S1x1x256x512.size a ≤ S3x4x256x512.size a}
    {w : FVec F S1x1x256x512 .bf16} {hx : (M.access (Rect.unit (s := S3x4x256x512) off S1x1x256x512.size inb)).Stores Finset.univ}
    {hm : (Finset.univ : Finset (Rect.unit (s := S3x4x256x512) off S1x1x256x512.size inb).shape.Idx) = Finset.univ
      ∨ ∀ a, (Rect.unit (s := S3x4x256x512) off S1x1x256x512.size inb).stride a = 1}
    {α : Type} {Q : α → sProp 𝕄} {k : PUnit → Prog (TpuEff nD τ sig (Elt F) Λ₀ .tc) α}
    (hw : w = shapeCast S1x1x256x512 (msg X Y p c) shapeCasts_S256x512_S1x1x256x512)
    (h : St X Y K c t (p + 1) s a b o ⊢ wp frame (wpE (defs₀ (F := F)) 𝒱₀ (c : Thread nD τ) none) Set.univ (k ⟨⟩) Q) :
    St X Y K c t p s a b o ⊢ wp frame (wpE (defs₀ (F := F)) 𝒱₀ (c : Thread nD τ) none) Set.univ
      (.op (.store M (Rect.unit (s := S3x4x256x512) off S1x1x256x512.size inb) w Finset.univ hx hm) k) Q := by
  subst hM
  unfold St at h ⊢
  rw [bigSep_Ico_succ_top hs (ready X Y c), ready] at h
  rw [bigSep_Ico_succ_bot hp (blank (F := F) c), blank]
  iintro ⟨Hr, Hl, Ho, H1, H2, H3, H4, ⟨Hx, H5⟩, H6⟩
  iapply (wp_slot_store c hoff (msg X Y p c) hw) $$ Hx
  iintro Hx
  iapply h
  iframe
  iexact H6

/-- A slot's contents, as its buffer holds them. -/
theorem slot_eq (c : Dev nD) (M : Memref sig .tc .vmem S3x4x256x512 .bf16) (i : ℕ) (Z : S256x512.Idx → Elt F .bf16) :
    (slot (F := F) c M i Z : sProp 𝕄) = iprop(∃ f, ⌜(sq M i).view.read (Elt F) f = Z⌝
      ∗ ((sq M i).view.loc (c : Thread nD τ) ↦[(sq M i).view.set]{fullShare} f)) := rfl

/-- The transfer of message `n`: its two cells' duties are paid with the source slot and with the landing slot written. -/
theorem wp_send_msg (c : Dev nD) {n : ℕ} (hn : n < 24)
    {hsc : (sq (recvM (dir n)) (n / 2)).view.ref.isScScratch = false}
    {hsrc : (sq (sendM (dir n)) (n / 2)).view.WordExact} {hdst : (sq (recvM (dir n)) (n / 2)).view.WordExact}
    {hsem : DmaTarget.Typed .vmem (.dma (recvS n)) (.remote (Dev.tc (dst (dir n) c) : Thread nD τ) (sq (recvM (dir n)) (n / 2)) (.dma (sendS n)) hsc)}
    {α : Type} {Q : α → sProp 𝕄} {k : PUnit → Prog (TpuEff nD τ sig (Elt F) Λ₀ .tc) α} (κ₁ κ₂ : ℕ) (W : Waits sig Unit)
    (fs : Buf (Elt F) ((sq (sendM (dir n)) (n / 2)).view.loc (c : Thread nD τ)))
    (fd : Buf (Elt F) ((sq (recvM (dir n)) (n / 2)).view.loc (dst (dir n) c : Thread nD τ)))
    (hfs : (sq (sendM (dir n)) (n / 2)).view.read (Elt F) fs = msg X Y n c) :
    iprop(cellInv ER (rd X Y) κ₁ (sendCell n c) ∗ cellInv ER (rd X Y) κ₂ (recvCell n (dst (dir n) c))
        ∗ ((sq (sendM (dir n)) (n / 2)).view.loc (c : Thread nD τ) ↦[(sq (sendM (dir n)) (n / 2)).view.set]{fullShare} fs)
        ∗ ((sq (recvM (dir n)) (n / 2)).view.loc (dst (dir n) c : Thread nD τ) ↦[(sq (recvM (dir n)) (n / 2)).view.set]{fullShare} fd)
        ∗ owes (c : Thread nD τ) (O c n) W
        ∗ dutyTok ER (sendCell n c) 0 false ∗ reached ER (sendCell n c) 0
        ∗ dutyTok ER (recvCell n (dst (dir n) c)) 0 false ∗ reached ER (recvCell n (dst (dir n) c)) 0)
      ⊢ iprop(((cred (tallyAt (sendCell n c) () N) ∗ owes (c : Thread nD τ) (O c (n + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sq (sendM (dir n)) (n / 2)) (.remote (Dev.tc (dst (dir n) c) : Thread nD τ) (sq (recvM (dir n)) (n / 2)) (.dma (sendS n)) hsc)
                (.dma (recvS n)) hsrc hdst hsem) k) Q) := by
  have hp₁ : ((sq (sendM (dir n)) (n / 2)).view.loc (c : Thread nD τ) ↦[(sq (sendM (dir n)) (n / 2)).view.set]{fullShare} fs)
      ⊢ (rd X Y).payload (sendCell n c) 0 false := by
    rw [payload_send X Y c hn]
    exact (owns_intro (c : Thread nD τ) (sq (sendM (dir n)) (n / 2)) fullShare fs).trans
      (exists_intro (Φ := fun Z => slot c (sendM (dir n)) (n / 2) Z) _)
  have hp₂ : ((sq (recvM (dir n)) (n / 2)).view.loc (dst (dir n) c : Thread nD τ) ↦[(sq (recvM (dir n)) (n / 2)).view.set]{fullShare}
      ((sq (recvM (dir n)) (n / 2)).view.write (Elt F) fd ((sq (sendM (dir n)) (n / 2)).view.read (Elt F) fs) Finset.univ))
      ⊢ (rd X Y).payload (recvCell n (dst (dir n) c)) 0 false := by
    rw [payload_recv X Y (dst (dir n) c) hn, recvPay, src_dst, ← hfs]
    refine (owns_intro (dst (dir n) c : Thread nD τ) (sq (recvM (dir n)) (n / 2)) fullShare _).trans (Entails.of_eq ?_)
    rw [View.read_write_univ]
    rfl
  exact Rounds.wp_send_pointsTo 𝒱₀ ER (rd X Y) (c : Thread nD τ) none (κ₁ := κ₁) (κ₂ := κ₂)
    (r₁ := 0) (r₂ := 0) (d₁ := false) (d₂ := false) (fs := fs) (fd := fd)
    (by rw [duties_send X Y c hn]; exact Finset.mem_singleton_self _)
    (by rw [duties_recv X Y (dst (dir n) c) hn]; exact Finset.mem_singleton_self _)
    () () N (by cases dir n <;> rfl) rfl rfl (O c (n + 1)) (O_succ c hn) (W := W) hp₁ hp₂

/-- Message `s` is sent. -/
theorem send (hs : s < 24) (ha : a ≤ s) (hp : s < p) {n' : Dev nD} (hn' : n' = dst (dir s) c)
    {m₁ m₂ : Memref sig .tc .vmem S256x512 .bf16} (hm₁ : m₁ = sq (sendM (dir s)) (s / 2)) (hm₂ : m₂ = sq (recvM (dir s)) (s / 2))
    {s₁ s₂ : DmaSem sig} (hs₁ : s₁ = sendS s) (hs₂ : s₂ = recvS s)
    {hsc : m₂.view.ref.isScScratch = false}
    {hsrc : m₁.view.WordExact} {hdst : m₂.view.WordExact}
    {hsem : DmaTarget.Typed .vmem (.dma s₂) (.remote (Dev.tc n' : Thread nD τ) m₂ (.dma s₁) hsc)}
    {α : Type} {Q : α → sProp 𝕄} {k : PUnit → Prog (TpuEff nD τ sig (Elt F) Λ₀ .tc) α}
    (h : St X Y K c t p (s + 1) a b o ⊢ wp frame (wpE (defs₀ (F := F)) 𝒱₀ (c : Thread nD τ) none) Set.univ (k ⟨⟩) Q) :
    St X Y K c t p s a b o ⊢ wp frame (wpE (defs₀ (F := F)) 𝒱₀ (c : Thread nD τ) none) Set.univ
      (.op (.enqueueDma m₁ (.remote (Dev.tc n' : Thread nD τ) m₂ (.dma s₁) hsc) (.dma s₂) hsrc hdst hsem) k) Q := by
  subst hn' hm₁ hm₂ hs₁ hs₂
  unfold St owing at h ⊢
  rw [bigSep_Ico_succ_top ha (sendCred (F := F) c), sendCred] at h
  rw [bigSep_Ico_succ_bot hs (toSend (F := F) c), bigSep_Ico_succ_bot hp (ready X Y c), toSend, ready, slotAny]
  iintro ⟨#Hr, Hl, ⟨%W, Ho⟩, ⟨Ht, H1⟩, H2, H3, H4, H5, ⟨Hx, H6⟩, H7⟩
  icases Ht with ⟨⟨%Yd, Hd⟩, Hts, Htr⟩
  ihave Hd' := (Entails.of_eq (slot_eq (dst (dir s) c) (recvM (dir s)) (s / 2) Yd)) $$ Hd
  icases Hd' with ⟨%fd, %hfd, Hd⟩
  ihave Hx' := (Entails.of_eq (slot_eq c (sendM (dir s)) (s / 2) (msg X Y s c))) $$ Hx
  icases Hx' with ⟨%fs, %hfs, Hx⟩
  ihave #Hs := (records_send X Y K hs c) $$ Hr
  icases Hs with ⟨#HIs, #Hrs⟩
  ihave #Hv := (records_recv X Y K hs (dst (dir s) c)) $$ Hr
  icases Hv with ⟨#HIr, #Hrr⟩
  iapply (wp_send_msg X Y c hs (K (c, some (⟨s, hs⟩, false))) (K (dst (dir s) c, some (⟨s, hs⟩, true))) W fs fd hfs) $$ [Hx Hd Ho Hts Htr]
  · isplitr; · iexact HIs
    isplitr; · iexact HIr
    isplitl [Hx]; · iexact Hx
    isplitl [Hd]; · iexact Hd
    isplitl [Ho]; · iexact Ho
    isplitl [Hts]; · iexact Hts
    isplitr; · iexact Hrs
    isplitl [Htr]; · iexact Htr
    iexact Hrr
  iintro ⟨Hcr, Ho⟩
  iapply h
  isplitr; · iexact Hr
  iframe
  iexists W; iexact Ho

/-- The wait on the send cell of message `a`. -/
theorem wait_send (ha : a < s) (hs : s ≤ 24) {sem : DmaSem sig} (hsem : sem = sendS a) {m₁ m₂ : Memref sig .tc .vmem S256x512 .bf16} (hm : m₂.view.dmaCredit = N)
    {hsrc : m₁.view.WordExact} {hdst : m₂.view.WordExact}
    {α : Type} {Q : α → sProp 𝕄} {k : PUnit → Prog (TpuEff nD τ sig (Elt F) Λ₀ .tc) α}
    (h : St X Y K c t p s (a + 1) b o ⊢ wp frame (wpE (defs₀ (F := F)) 𝒱₀ (c : Thread nD τ) none) Set.univ (k ⟨⟩) Q) :
    St X Y K c t p s a b o ⊢ wp frame (wpE (defs₀ (F := F)) 𝒱₀ (c : Thread nD τ) none) Set.univ
      (.op (.waitDma2 sem m₁ m₂ hsrc hdst) k) Q := by
  subst hsem
  have ha24 : a < 24 := by omega
  have hlv : lvOf (.dma (sendS a)) ≤ 1 := by dsimp only [lvOf]; rw [isRecv_sendS ha24]; exact Nat.zero_le 1
  have hk : 0 + m₂.view.dmaCredit = (rd X Y).expect (sendCell a c) 0 := by rw [Nat.zero_add, expect_send X Y c ha24, hm]
  unfold St owing at h ⊢
  rw [bigSep_range_succ a (sent (F := F) c), sent, ← sendPay] at h
  rw [bigSep_Ico_succ_bot ha (sendCred (F := F) c), bigSep_Ico_succ_bot ha24 (sendAt (F := F) c), sendCred, sendAt]
  iintro ⟨#Hr, #Hl, ⟨%W, Ho⟩, H1, ⟨Hc, H2⟩, ⟨Hat, H3⟩, H4⟩
  ihave #Hs := (records_send X Y K ha24 c) $$ Hr
  icases Hs with ⟨#HI, -⟩
  iapply (Rounds.wp_wait_rest_token 𝒱₀ ER (rd X Y) (c : Thread nD τ) none (κ := K (c, some (⟨a, ha24⟩, false)))
      (wpE_waitDma2_eq 𝒱₀ (c : Thread nD τ) none Set.univ) (Set.mem_univ _) () (O := O c s) (W := W) (R := 0) (m := 0) (T := ∅) hk) $$ [Hc Ho Hat]
  · isplitr; · iexact HI
    isplitl [Hc]; · rw [hm]; iexact Hc
    isplitl [Ho]; · iexact Ho
    isplitr; · iapply (mayWait_of c (.dma (sendS a)) s (Or.inl hlv)); iexact Hl
    iexact Hat
  iintro ⟨Ho, Hat, -, Hpay⟩
  ihave Hp := (Entails.of_eq (rest_send X Y c ha24)) $$ Hpay
  imod (Rounds.cell_close ER (rd X Y) (Set.mem_univ (K (c, some (⟨a, ha24⟩, false)))) (fun h => h) (R := 0 + 1) (duties_later X Y (sendCell a c))) $$ [Hat] with Hz
  · isplitr; · iexact HI
    iexact Hat
  iapply h
  isplitr; · iexact Hr
  isplitr; · iexact Hl
  isplitl [Ho]; · iexists _; iexact Ho
  iframe
  iexact H4

/-- The wait on the receive cell of message `b`. -/
theorem wait_recv (hb : b + 8 ≤ s ∧ s ≤ 24 ∨ s = 24 ∧ b < 24) {sem : DmaSem sig} (hsem : sem = recvS b) {m₁ m₂ : Memref sig .tc .vmem S256x512 .bf16} (hm : m₂.view.dmaCredit = N)
    {hsrc : m₁.view.WordExact} {hdst : m₂.view.WordExact}
    {α : Type} {Q : α → sProp 𝕄} {k : PUnit → Prog (TpuEff nD τ sig (Elt F) Λ₀ .tc) α}
    (h : St X Y K c t p s a (b + 1) o ⊢ wp frame (wpE (defs₀ (F := F)) 𝒱₀ (c : Thread nD τ) none) Set.univ (k ⟨⟩) Q) :
    St X Y K c t p s a b o ⊢ wp frame (wpE (defs₀ (F := F)) 𝒱₀ (c : Thread nD τ) none) Set.univ
      (.op (.waitDma2 sem m₁ m₂ hsrc hdst) k) Q := by
  subst hsem
  have hb24 : b < 24 := by omega
  have hk : 0 + m₂.view.dmaCredit = (rd X Y).expect (recvCell b c) 0 := by rw [Nat.zero_add, expect_recv X Y c hb24, hm]
  have hw : (levAts L lv : sProp 𝕄) ⊢ MayWait (c : Thread nD τ) (.dma (recvS b)) () (O c s) := by
    by_cases h24 : s = 24
    · subst h24; rw [O_end, MayWait_zero]; iintro -; iempintro
    · refine mayWait_of c (.dma (recvS b)) s (Or.inr ⟨by omega, ?_⟩)
      dsimp only [lvOf]; rw [isRecv_recvS hb24, msgOf_recvS hb24]
      show 2 + b / 8 ≤ _
      omega
  unfold St owing at h ⊢
  rw [bigSep_range_succ b (got X Y c), got, ← recvPay] at h
  rw [bigSep_Ico_succ_bot hb24 (recvAt (F := F) c), recvAt]
  iintro ⟨#Hr, #Hl, ⟨%W, Ho⟩, H1, H2, H3, ⟨Hat, H4⟩, H5⟩
  ihave #Hs := (records_recv X Y K hb24 c) $$ Hr
  icases Hs with ⟨#HI, -⟩
  icases Hat with ⟨Hat, Hc⟩
  iapply (Rounds.wp_wait_rest_token 𝒱₀ ER (rd X Y) (c : Thread nD τ) none (κ := K (c, some (⟨b, hb24⟩, true)))
      (wpE_waitDma2_eq 𝒱₀ (c : Thread nD τ) none Set.univ) (Set.mem_univ _) () (O := O c s) (W := W) (R := 0) (m := 0) (T := ∅) hk) $$ [Hc Ho Hat]
  · isplitr; · iexact HI
    isplitl [Hc]; · rw [hm]; iexact Hc
    isplitl [Ho]; · iexact Ho
    isplitr; · iapply hw; iexact Hl
    iexact Hat
  iintro ⟨Ho, Hat, -, Hpay⟩
  ihave Hp := (Entails.of_eq (rest_recv X Y c hb24)) $$ Hpay
  imod (Rounds.cell_close ER (rd X Y) (Set.mem_univ (K (c, some (⟨b, hb24⟩, true)))) (fun h => h) (R := 0 + 1) (duties_later X Y (recvCell b c))) $$ [Hat] with Hz
  · isplitr; · iexact HI
    iexact Hat
  iapply h
  isplitr; · iexact Hr
  isplitr; · iexact Hl
  isplitl [Ho]; · iexists _; iexact Ho
  iframe
  iexact H5

/-- A load of the landing slot of the message last received. -/
theorem load_recv {M : Memref sig .tc .vmem S3x4x256x512 .bf16} (hM : M = recvM (dir b)) {off : Fin 4 → ℕ} (hoff : off = slotOff (b / 2))
    {inb : ∀ a, off a + S1x1x256x512.size a ≤ S3x4x256x512.size a}
    {hl : M.view.LoadsAt (Rect.unit (s := S3x4x256x512) off S1x1x256x512.size inb).toLoadRect}
    {α : Type} {Q : α → sProp 𝕄} {k : Vec F S1x1x256x512 .bf16 → Prog (TpuEff nD τ sig (Elt F) Λ₀ .tc) α}
    (h : ∀ v, shapeCast S256x512 v shapeCasts_S1x1x256x512_S256x512 = msg X Y b (src (dir b) c) →
      St X Y K c t p s a (b + 1) o ⊢ wp frame (wpE (defs₀ (F := F)) 𝒱₀ (c : Thread nD τ) none) Set.univ (k v) Q) :
    St X Y K c t p s a (b + 1) o ⊢ wp frame (wpE (defs₀ (F := F)) 𝒱₀ (c : Thread nD τ) none) Set.univ
      (.op (.load M (Rect.unit (s := S3x4x256x512) off S1x1x256x512.size inb).toLoadRect hl) k) Q := by
  subst hM
  unfold St at h ⊢
  rw [bigSep_range_succ b (got X Y c), got] at h ⊢
  iintro ⟨Hr, Hl, Ho, H1, H2, H3, H4, H5, H6, H7, ⟨⟨Hx, Hz⟩, H8⟩, H9⟩
  iapply (wp_slot_load c hoff (msg X Y b (src (dir b) c))) $$ Hx
  iintro %v %hv Hx
  iapply (h v hv)
  iframe

end Effects

end Cert.KernelIdealProof

end
-- ==== Proof.KernelIdealBody.lean ====
/-
# The kernel's body

From everything device `c` starts with, the barrier exchange leads to the first state of `Steps`, and the body's effects,
one theorem each, to the last.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x1024 .bf16) (Y : Dev nD → Vec F S1024x4096 .bf16) (K : Dev nD × Key → ℕ)

/-! ## What the printed index computations come to -/

/-- The first stage's chunk of a right-going message, -/
theorem x_first_r (c : Dev nD) : k0_off1 c 3#32 = ![0, 256 * (chunk false 0 c).val] := by
  refine (k0_off1_eq c 1).trans ?_
  have : (c.val + 2 * (1 : Fin 2).val + 1) % 4 = (chunk false 0 c).val := by
    show (c.val + 2 * 1 + 1) % 4 = (c.val + 7) % 4; omega
  rw [this]
/-- and of a left-going one. -/
theorem x_first_l (c : Dev nD) : k0_off1 c 1#32 = ![0, 256 * (chunk true 0 c).val] := k0_off1_eq c 0
/-- A later stage's chunk of a right-going message, -/
theorem x_next_r (c : Dev nD) (h : Fin 3) : k0_off2 c (BitVec.ofNat 32 h.val) = ![0, 256 * (chunk false (h.val + 1) c).val] := by
  refine (k0_off2_eq c h).trans ?_
  have : (c.val + 6 - h.val) % 4 = (chunk false (h.val + 1) c).val := by
    have := h.isLt
    show (c.val + 6 - h.val) % 4 = (c.val + (7 - (h.val + 1))) % 4
    congr 1; omega
  rw [this]
/-- and of a left-going one. -/
theorem x_next_l (c : Dev nD) (h : Fin 3) : k0_off3 c (BitVec.ofNat 32 h.val) = ![0, 256 * (chunk true (h.val + 1) c).val] := by
  refine (k0_off3_eq c h).trans ?_
  have : (c.val + h.val + 2) % 4 = (chunk true (h.val + 1) c).val := by
    show (c.val + h.val + 2) % 4 = (c.val + (1 + (h.val + 1))) % 4
    congr 1; omega
  rw [this]

/-- A right-going message is sent to the device on the right, -/
theorem to_r (c : Dev nD) {n : ℕ} {v : Dev nD} (hd : dir n = false) (hv : v.val = k0_dev3 c) : v = dst (dir n) c := by
  rw [hd]; exact Fin.ext (hv.trans (k0_dev3_eq c))
/-- and a left-going one to the device on the left. -/
theorem to_l (c : Dev nD) {n : ℕ} {v : Dev nD} (hd : dir n = true) (hv : v.val = k0_dev4 c) : v = dst (dir n) c := by
  rw [hd]; exact Fin.ext (hv.trans (k0_dev4_eq c))

/-- Every slot's transfer credits the same. -/
theorem credit_slot (M : Memref sig .tc .vmem S3x4x256x512 .bf16) {off : Fin 4 → ℕ} {inb : ∀ a, off a + S1x1x256x512.size a ≤ S3x4x256x512.size a} :
    ((M.slice (Rect.unit (s := S3x4x256x512) off S1x1x256x512.size inb) (fun _ => rfl)).squeeze S256x512 squeezes_S1x1x256x512_S256x512).view.dmaCredit = N := rfl

/-! ## What the body stores -/

/-- A first-stage message as the body computes it. -/
theorem first_msg (c : Dev nD) (n : ℕ) (hn : n < 8) :
    shapeCast S1x1x256x512 (truncf .bf16 (matmul dot_S1024x256_S1024x512_S256x512_0_0_1_1_n_n none
        (shapeCast S1024x256 (fun j => X c ((xR (chunk (dir n) 0 c)).emb j)) shapeCasts_S1024x256_S1024x256)
        (shapeCast S1024x512 (fun j => Y c ((dyR n).emb j)) shapeCasts_S1024x512_S1024x512) (constant S256x512 .f32 0x00000000#32)) bitsLt_bf16_f32)
        shapeCasts_S256x512_S1x1x256x512
      = shapeCast S1x1x256x512 (msg X Y n c) shapeCasts_S256x512_S1x1x256x512 := by
  have h1 : n % 8 = n := Nat.mod_eq_of_lt hn
  have h2 : n / 8 = 0 := Nat.div_eq_of_lt hn
  rw [show shapeCast S1024x512 (fun j => Y c ((dyR n).emb j)) shapeCasts_S1024x512_S1024x512 = fun j => Y c ((dyR n).emb j) from shapeCast_self _ _]
  unfold msg
  rw [h1, h2]
  rfl

/-- The sum after one more stage, as the body computes it. -/
theorem next_acc (c : Dev nD) (n h : ℕ) (hh : n / 8 = h) (v : Vec F S1x1x256x512 .bf16)
    (hv : shapeCast S256x512 v shapeCasts_S1x1x256x512_S256x512 = msg X Y n (src (dir n) c)) :
    addf (extf .f32 (shapeCast S256x512 v shapeCasts_S1x1x256x512_S256x512) bitsLt_bf16_f32)
        (mm (fun j => X c ((xR (chunk (dir n) (h + 1) c)).emb j)) (fun j => Y c ((dyR (n % 8)).emb j)))
      = acc X Y (n % 8) (h + 1) c := by
  rw [hv]
  unfold msg
  rw [hh]
  show _ = addf (extf .f32 (truncf .bf16 (acc X Y (n % 8) h (src (dir (n % 8)) c)) bitsLt_bf16_f32) bitsLt_bf16_f32) (part X Y (n % 8) (h + 1) c)
  unfold part
  rw [dir_mod]

/-- The whole sum as the body computes it. -/
theorem last_acc (c : Dev nD) (q : ℕ) (hq : q < 8) (v : Vec F S1x1x256x512 .bf16)
    (hv : shapeCast S256x512 v shapeCasts_S1x1x256x512_S256x512 = msg X Y (16 + q) (src (dir (16 + q)) c)) :
    addf (extf .f32 (shapeCast S256x512 v shapeCasts_S1x1x256x512_S256x512) bitsLt_bf16_f32)
        (mm (fun j => X c ((xR (chunk (dir (16 + q)) 3 c)).emb j)) (fun j => Y c ((dyR q).emb j)))
      = acc X Y q 3 c := by
  have h := next_acc X Y c (16 + q) 2 (by omega) v hv
  rw [show (16 + q) % 8 = q by omega] at h
  exact h

/-- A later stage's message as the body computes it. -/
theorem next_msg (c : Dev nD) (n h : ℕ) (hh : n / 8 = h) (v : Vec F S1x1x256x512 .bf16)
    (hv : shapeCast S256x512 v shapeCasts_S1x1x256x512_S256x512 = msg X Y n (src (dir n) c)) :
    shapeCast S1x1x256x512 (truncf .bf16 (addf (extf .f32 (shapeCast S256x512 v shapeCasts_S1x1x256x512_S256x512) bitsLt_bf16_f32)
        (mm (fun j => X c ((xR (chunk (dir n) (h + 1) c)).emb j)) (fun j => Y c ((dyR (n % 8)).emb j)))) bitsLt_bf16_f32)
        shapeCasts_S256x512_S1x1x256x512
      = shapeCast S1x1x256x512 (msg X Y (n + 8) c) shapeCasts_S256x512_S1x1x256x512 := by
  rw [next_acc X Y c n h hh v hv]
  unfold msg
  rw [Nat.add_mod_right, show (n + 8) / 8 = h + 1 by omega]

/-- The copy's block as the body computes it. -/
theorem copied (v : Vec F S1024x512 .bf16) :
    shapeCast S1024x512 (shapeCast S1024x512 v shapeCasts_S1024x512_S1024x512) shapeCasts_S1024x512_S1024x512 = v :=
  (shapeCast_self _ _).trans (shapeCast_self _ _)

/-! ## The barrier exchange -/

/-- A part that has returned. -/
theorem returned {c : Dev nD} {α : Type} {P : sProp 𝕄} {Q : α → sProp 𝕄} {v : α} (h : P ⊢ Q v) :
    P ⊢ wp frame (wpE (defs₀ (F := F)) 𝒱₀ (c : Thread nD τ) none) Set.univ (.ret v) Q := by
  rw [wp_ret]; exact h.trans fupd_intro

theorem dst_dst (d : Bool) (c : Dev nD) : dst d (dst (!d) c) = c := by revert d c; decide

/-- Twenty-four summands are twelve of each direction. -/
theorem by_direction (Φ : ℕ → sProp 𝕄) :
    bigSep (Finset.Ico 0 24) Φ = iprop(bigSep Finset.univ (fun i : Fin 12 => Φ (2 * i.val)) ∗ bigSep Finset.univ fun i : Fin 12 => Φ (2 * i.val + 1)) := by
  have e : Finset.Ico 0 24 = (Finset.univ.image fun i : Fin 12 => 2 * i.val) ∪ Finset.univ.image fun i : Fin 12 => 2 * i.val + 1 := by decide
  rw [e, bigSep_union (by decide), bigSep_image_of_injOn (fun a _ b _ h => Fin.ext (by simpa using h)),
    bigSep_image_of_injOn (fun a _ b _ h => Fin.ext (by simpa using h))]
  rfl

/-- The duties of a message's two cells. -/
def tokens (c : Dev nD) (n : ℕ) : sProp 𝕄 :=
  iprop(dutyTok ER (sendCell n c) 0 false ∗ dutyTok ER (recvCell n (dst (dir n) c)) 0 false)

/-- Everything device `c` starts with. -/
def Start (c : Dev nD) : sProp 𝕄 :=
  iprop(records X Y K ∗ levAts L lv ∗ (∃ W, owes (c : Thread nD τ) (O₀ c) W)
    ∗ (dutyTok ER (barCell (dst true c)) 0 false ∗ dutyTok ER (barCell (dst false c)) 0 true ∗ atPos ER (barCell c) 0 ∅ 0
        ∗ cred (tallyAt (barCell c) () 2))
    ∗ (bigSep Finset.univ (fun i : Fin 12 => slotAny (F := F) c (recvM false) i.val)
        ∗ bigSep Finset.univ fun i : Fin 12 => slotAny (F := F) c (recvM true) i.val)
    ∗ bigSep (Finset.Ico 0 24) (tokens (F := F) c)
    ∗ bigSep (Finset.Ico 0 24) (sendAt (F := F) c) ∗ bigSep (Finset.Ico 0 24) (recvAt (F := F) c)
    ∗ bigSep (Finset.Ico 0 24) (blank (F := F) c)
    ∗ whole c cc0_stg0_0 (X c) ∗ whole c cc0_stg1_0 (Y c) ∗ dyCopy Y c 0 ∗ outPart X Y c 0)

/-- The neighbours' landing slots and a device's duties are what it needs to send. -/
theorem toSend_intro (c : Dev nD) :
    iprop((barPay (F := F) c false ∗ barPay (F := F) c true) ∗ bigSep (Finset.Ico 0 24) (tokens (F := F) c))
      ⊢ bigSep (Finset.Ico 0 24) (toSend (F := F) c) := by
  have h : iprop(barPay (F := F) c false ∗ barPay (F := F) c true)
      = bigSep (Finset.Ico 0 24) fun n => slotAny (F := F) (dst (dir n) c) (recvM (dir n)) (n / 2) := by
    rw [by_direction]
    unfold barPay
    refine congrArg₂ (fun a b => iprop(a ∗ b)) (bigSep_congr fun i _ => ?_) (bigSep_congr fun i _ => ?_)
    · rw [dir_even, Nat.mul_div_cancel_left _ (by decide : 0 < 2)]
    · rw [dir_odd, show (2 * i.val + 1) / 2 = i.val by omega]
  rw [h, ← bigSep_sep']
  exact Entails.of_eq (bigSep_congr fun n _ => rfl)

/-- The two signals and the wait of the barrier. -/
theorem barrier {c : Dev nD} {n₁ n₂ : Dev nD} (h₁ : n₁ = dst true c) (h₂ : n₂ = dst false c) {k₁ k₂ k₃ : ℕ} (hk₁ : 1 = k₁) (hk₂ : 1 = k₂) (hk₃ : k₃ = 2)
    {α : Type} {Q : α → sProp 𝕄} {k : PUnit → Prog (TpuEff nD τ sig (Elt F) Λ₀ .tc) α}
    (h : St X Y K c 0 0 0 0 0 0 ⊢ wp frame (wpE (defs₀ (F := F)) 𝒱₀ (c : Thread nD τ) none) Set.univ (k ⟨⟩) Q) :
    Start X Y K c ⊢ wp frame (wpE (defs₀ (F := F)) 𝒱₀ (c : Thread nD τ) none) Set.univ
      (.op (.semSignal (n₁ : Thread nD τ) barS k₁) fun _ => .op (.semSignal (n₂ : Thread nD τ) barS k₂) fun _ => .op (.semWait barS k₃) k) Q := by
  subst h₁ h₂ hk₁ hk₂ hk₃
  unfold Start St owing at *
  iintro ⟨#Hr, #Hl, ⟨%W, Ho⟩, ⟨Ht1, Ht2, Hat, Hc⟩, ⟨Hs1, Hs2⟩, Htok, Hsa, Hra, Hbl, Hx, Hy, Hd, Hout⟩
  ihave #HB := (records_bar X Y K c) $$ Hr
  icases HB with ⟨#HI, -⟩
  ihave #HB1 := (records_bar X Y K (dst true c)) $$ Hr
  icases HB1 with ⟨#HI1, #Hr1⟩
  ihave #HB2 := (records_bar X Y K (dst false c)) $$ Hr
  icases HB2 with ⟨#HI2, #Hr2⟩
  have d₁ : dst false (dst true c) = c := dst_dst false c
  have d₂ : dst true (dst false c) = c := dst_dst true c
  iapply (Rounds.wp_signal 𝒱₀ ER (rd X Y) (c : Thread nD τ) none (dst := (dst true c : Thread nD τ)) (κ := K (dst true c, none))
      (d := false) (by rw [duties_bar]; exact Finset.mem_univ _) rfl () (O₁ c) rfl) $$ [Ho Ht1 Hs1]
  · isplitr; · iexact HI1
    isplitl [Ho]; · iexact Ho
    isplitl [Ht1]; · iexact Ht1
    isplitl [Hs1]; · rw [payload_bar]; unfold barPay; rw [d₁]; iexact Hs1
    iexact Hr1
  iintro Ho
  unfold O₁
  iapply (Rounds.wp_signal 𝒱₀ ER (rd X Y) (c : Thread nD τ) none (dst := (dst false c : Thread nD τ)) (κ := K (dst false c, none))
      (d := true) (by rw [duties_bar]; exact Finset.mem_univ _) rfl () (O c 0) rfl) $$ [Ho Ht2 Hs2]
  · isplitr; · iexact HI2
    isplitl [Ho]; · iexact Ho
    isplitl [Ht2]; · iexact Ht2
    isplitl [Hs2]; · rw [payload_bar]; unfold barPay; rw [d₂]; iexact Hs2
    iexact Hr2
  iintro Ho
  iapply (Rounds.wp_wait_rest_token 𝒱₀ ER (rd X Y) (c : Thread nD τ) none (κ := K (c, none))
      (wpE_semWait_eq 𝒱₀ (c : Thread nD τ) none Set.univ) (Set.mem_univ _) () (O := O c 0) (W := W) (R := 0) (m := 0) (T := ∅)
      (by rw [expect_bar])) $$ [Hc Ho Hat]
  · isplitr; · iexact HI
    isplitl [Hc]; · iexact Hc
    isplitl [Ho]; · iexact Ho
    isplitr; · iapply (mayWait_of c (.reg barS) 0 (Or.inl (le_refl _))); iexact Hl
    iexact Hat
  iintro ⟨Ho, Hat, -, Hpay⟩
  ihave Hp := (Entails.of_eq (rest_bar X Y c)) $$ Hpay
  imod (Rounds.cell_close ER (rd X Y) (Set.mem_univ (K (c, none))) (fun h => h) (R := 0 + 1) (duties_later X Y (barCell c))) $$ [Hat] with Hz
  · isplitr; · iexact HI
    iexact Hat
  ihave Hts := (toSend_intro (F := F) c) $$ [Hp Htok]
  · isplitl [Hp]; · iexact Hp
    iexact Htok
  iapply h
  rw [Finset.Ico_self, bigSep_empty, bigSep_empty, Finset.range_zero, bigSep_empty, bigSep_empty]
  isplitr; · iexact Hr
  isplitr; · iexact Hl
  isplitl [Ho]; · iexists _; iexact Ho
  isplitl [Hts]; · iexact Hts
  isplitr; · iempintro
  isplitl [Hsa]; · iexact Hsa
  isplitl [Hra]; · iexact Hra
  isplitl [Hbl]; · iexact Hbl
  isplitr; · iempintro
  isplitr; · iempintro
  isplitr; · iempintro
  iframe

/-! ## The body, effect by effect -/

/-- An unused load of a right-going message's slot, -/
theorem peek_send_r {c : Dev nD} {t p s a b o : ℕ} (hp : p < 24) (hd : false = dir p) {off : Fin 4 → ℕ} (hoff : off = slotOff (p / 2))
    {inb : ∀ a, off a + S1x1x256x512.size a ≤ S3x4x256x512.size a}
    {hl : (Memref.whole cc0_scratch1 : Memref sig .tc .vmem S3x4x256x512 .bf16).view.LoadsAt (Rect.unit (s := S3x4x256x512) off S1x1x256x512.size inb).toLoadRect}
    {α : Type} {Q : α → sProp 𝕄} {k : Vec F S1x1x256x512 .bf16 → Prog (TpuEff nD τ sig (Elt F) Λ₀ .tc) α}
    (h : ∀ v, St X Y K c t p s a b o ⊢ wp frame (wpE (defs₀ (F := F)) 𝒱₀ (c : Thread nD τ) none) Set.univ (k v) Q) :
    St X Y K c t p s a b o ⊢ wp frame (wpE (defs₀ (F := F)) 𝒱₀ (c : Thread nD τ) none) Set.univ
      (.op (.load (Memref.whole cc0_scratch1) (Rect.unit (s := S3x4x256x512) off S1x1x256x512.size inb).toLoadRect hl) k) Q :=
  peek_send X Y K hp (M := Memref.whole cc0_scratch1) (congrArg sendM hd) hoff h

/-- and of a left-going one's. -/
theorem peek_send_l {c : Dev nD} {t p s a b o : ℕ} (hp : p < 24) (hd : true = dir p) {off : Fin 4 → ℕ} (hoff : off = slotOff (p / 2))
    {inb : ∀ a, off a + S1x1x256x512.size a ≤ S3x4x256x512.size a}
    {hl : (Memref.whole cc0_scratch3 : Memref sig .tc .vmem S3x4x256x512 .bf16).view.LoadsAt (Rect.unit (s := S3x4x256x512) off S1x1x256x512.size inb).toLoadRect}
    {α : Type} {Q : α → sProp 𝕄} {k : Vec F S1x1x256x512 .bf16 → Prog (TpuEff nD τ sig (Elt F) Λ₀ .tc) α}
    (h : ∀ v, St X Y K c t p s a b o ⊢ wp frame (wpE (defs₀ (F := F)) 𝒱₀ (c : Thread nD τ) none) Set.univ (k v) Q) :
    St X Y K c t p s a b o ⊢ wp frame (wpE (defs₀ (F := F)) 𝒱₀ (c : Thread nD τ) none) Set.univ
      (.op (.load (Memref.whole cc0_scratch3) (Rect.unit (s := S3x4x256x512) off S1x1x256x512.size inb).toLoadRect hl) k) Q :=
  peek_send X Y K hp (M := Memref.whole cc0_scratch3) (congrArg sendM hd) hoff h

attribute [local irreducible] k0_off1 k0_off2 k0_off3 wp St Start BIBase.Entails shapeCast msg acc

set_option maxHeartbeats 4000000 in
set_option maxRecDepth 4000 in
/-- The body takes `Start` to the last state. Each printed part in turn is opened, and each effect of it moves the state by that
    effect's theorem. -/
theorem run_body {c : Dev nD} {Q : PUnit → sProp 𝕄} (h : St X Y K c 8 24 24 24 24 8 ⊢ Q ⟨⟩) :
    Start X Y K c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        cc0_scratch5 cc0_scratch6 cc0_scratch7 cc0_scratch8) Q := by
  rw [cc0_body_eq_skeleton, cc0_body_skel, wp_bind, k0_part43_eq_skeleton, k0_part43_skel]
  rw [wp_bind, k0_part1_eq_skeleton, k0_part1_skel]
  simp only [semSignalWord, semWaitWord, Prog.lift, Prog.bind_op, Prog.bind_ret, Prog.pure_eq_ret, wp_deviceId]
  refine barrier X Y K (Fin.ext (k0_dev1_eq c)) (Fin.ext (k0_dev2_eq c)) rfl rfl rfl ?_
  iterate 44
    repeat
      first
      | with_reducible refine peek_copy X Y K ?_
      | with_reducible refine peek_out X Y K ?_
        intro v
      | with_reducible refine load_x X Y K ?_ ?_ ?_
        on_goal 2 => first | exact x_first_r c | exact x_first_l c | exact x_next_r c 0 | exact x_next_l c 0 | exact x_next_r c 1 | exact x_next_l c 1 | exact x_next_r c 2 | exact x_next_l c 2
      | with_reducible refine load_dy X Y K ?_ ?_ ?_
        on_goal 2 => first | exact (rfl : _ = ![0, colOf 0]) | exact (rfl : _ = ![0, colOf 1]) | exact (rfl : _ = ![0, colOf 2]) | exact (rfl : _ = ![0, colOf 3]) | exact (rfl : _ = ![0, colOf 4]) | exact (rfl : _ = ![0, colOf 5]) | exact (rfl : _ = ![0, colOf 6]) | exact (rfl : _ = ![0, colOf 7])
      | with_reducible refine load_copy X Y K ?_ ?_ ?_ ?_ ?_
        on_goal 2 => first | exact (rfl : _ = ![0, colOf 0]) | exact (rfl : _ = ![0, colOf 1]) | exact (rfl : _ = ![0, colOf 2]) | exact (rfl : _ = ![0, colOf 3]) | exact (rfl : _ = ![0, colOf 4]) | exact (rfl : _ = ![0, colOf 5]) | exact (rfl : _ = ![0, colOf 6]) | exact (rfl : _ = ![0, colOf 7])
        · decide
        · decide
      | with_reducible refine store_copy X Y K ?_ ?_ ?_
        · rfl
        · exact copied _
      | with_reducible refine store_out X Y K ?_ ?_ ?_ ?_
        · decide
        · rfl
        · refine Eq.trans ?_ (last_acc X Y c _ (by decide) _ (by assumption)); rfl
      | with_reducible refine peek_send_r X Y K ?_ ?_ ?_ ?_
        · decide
        · rfl
        · rfl
        intro v
      | with_reducible refine peek_send_l X Y K ?_ ?_ ?_ ?_
        · decide
        · rfl
        · rfl
        intro v
      | with_reducible refine store_send X Y K ?_ ?_ ?_ ?_ ?_ ?_
        · decide
        · decide
        · rfl
        · rfl
        · first
          | refine Eq.trans ?_ (first_msg X Y c _ (by decide)); rfl
          | refine Eq.trans ?_ (next_msg X Y c _ _ rfl _ (by assumption)); rfl
      | with_reducible refine send X Y K ?_ ?_ ?_ ?_ ?_ ?_ ?_ ?_ ?_
        · decide
        · decide
        · decide
        · first
          | refine to_r c ?_ ?_
            · decide
            · rfl
          | refine to_l c ?_ ?_
            · decide
            · rfl
        · rfl
        · rfl
        · rfl
        · rfl
      | with_reducible refine wait_send X Y K ?_ ?_ ?_ ?_ ?_
        · decide
        · decide
        · rfl
        · exact credit_slot _
      | with_reducible refine wait_recv X Y K ?_ ?_ ?_ ?_
        · decide
        · rfl
        · exact credit_slot _
      | with_reducible refine load_recv X Y K ?_ ?_ ?_
        · rfl
        · rfl
        intro v hv
      try (conv => lhs; simp only [Nat.reduceAdd])
    refine returned ?_
    try dsimp only
    try
      rw [wp_bind]
      first
        | rw [k0_part2_eq_skeleton, k0_part2_skel]
        | rw [k0_part3_eq_skeleton, k0_part3_skel]
        | rw [k0_part4_eq_skeleton, k0_part4_skel]
        | rw [k0_part5_eq_skeleton, k0_part5_skel]
        | rw [k0_part6_eq_skeleton, k0_part6_skel]
        | rw [k0_part7_eq_skeleton, k0_part7_skel]
        | rw [k0_part8_eq_skeleton, k0_part8_skel]
        | rw [k0_part9_eq_skeleton, k0_part9_skel]
        | rw [k0_part10_eq_skeleton, k0_part10_skel]
        | rw [k0_part11_eq_skeleton, k0_part11_skel]
        | rw [k0_part12_eq_skeleton, k0_part12_skel]
        | rw [k0_part13_eq_skeleton, k0_part13_skel]
        | rw [k0_part14_eq_skeleton, k0_part14_skel]
        | rw [k0_part15_eq_skeleton, k0_part15_skel]
        | rw [k0_part16_eq_skeleton, k0_part16_skel]
        | rw [k0_part17_eq_skeleton, k0_part17_skel]
        | rw [k0_part18_eq_skeleton, k0_part18_skel]
        | rw [k0_part19_eq_skeleton, k0_part19_skel]
        | rw [k0_part20_eq_skeleton, k0_part20_skel]
        | rw [k0_part21_eq_skeleton, k0_part21_skel]
        | rw [k0_part22_eq_skeleton, k0_part22_skel]
        | rw [k0_part23_eq_skeleton, k0_part23_skel]
        | rw [k0_part24_eq_skeleton, k0_part24_skel]
        | rw [k0_part25_eq_skeleton, k0_part25_skel]
        | rw [k0_part26_eq_skeleton, k0_part26_skel]
        | rw [k0_part27_eq_skeleton, k0_part27_skel]
        | rw [k0_part28_eq_skeleton, k0_part28_skel]
        | rw [k0_part29_eq_skeleton, k0_part29_skel]
        | rw [k0_part30_eq_skeleton, k0_part30_skel]
        | rw [k0_part31_eq_skeleton, k0_part31_skel]
        | rw [k0_part32_eq_skeleton, k0_part32_skel]
        | rw [k0_part33_eq_skeleton, k0_part33_skel]
        | rw [k0_part34_eq_skeleton, k0_part34_skel]
        | rw [k0_part35_eq_skeleton, k0_part35_skel]
        | rw [k0_part36_eq_skeleton, k0_part36_skel]
        | rw [k0_part37_eq_skeleton, k0_part37_skel]
        | rw [k0_part38_eq_skeleton, k0_part38_skel]
        | rw [k0_part39_eq_skeleton, k0_part39_skel]
        | rw [k0_part40_eq_skeleton, k0_part40_skel]
        | rw [k0_part41_eq_skeleton, k0_part41_skel]
        | rw [k0_part42_eq_skeleton, k0_part42_skel]
      simp only [Prog.lift, Prog.bind_op, Prog.bind_ret, Prog.pure_eq_ret]
  exact h

end Cert.KernelIdealProof

end
-- ==== Proof.KernelIdealPoint.lean ====
/-
# The body's obligation

What a device holds when its kernel starts, cut into the slots and cells that `run_body` speaks of, and what `run_body`
leaves, put back together: the pipeline's one grid point, done.
-/
module

public import proofs.«01_k».proof.Proof.KernelIdealBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families of assertions, listed in other orders -/

/-- Twenty-four messages, as numbers or as an index type. -/
theorem by_index (Φ : ℕ → sProp 𝕄) : bigSep (Finset.Ico 0 24) Φ = bigSep Finset.univ fun i : Fin 24 => Φ i.val := by
  have e : Finset.Ico 0 24 = (Finset.univ : Finset (Fin 24)).map Fin.valEmbedding := by decide
  rw [e, bigSep_map]; rfl

/-- One summand for each transfer cell: the send cells', then the receive cells'. -/
theorem by_side (Φ : Fin 24 × Bool → sProp 𝕄) :
    bigSep Finset.univ Φ = iprop(bigSep Finset.univ (fun i : Fin 24 => Φ (i, false)) ∗ bigSep Finset.univ fun i : Fin 24 => Φ (i, true)) := by
  rw [bigSep_univ_prod, ← bigSep_sep']
  refine bigSep_congr fun i _ => ?_
  rw [bigSep_univ_eq_bigSepL [false, true] (by decide) (by decide), bigSepL_cons_cons, bigSepL_singleton]
  rfl

/-- One summand for each cell: the barrier's, then the transfer cells'. -/
theorem by_key (Φ : Key → sProp 𝕄) :
    bigSep Finset.univ Φ = iprop(Φ none ∗ bigSep Finset.univ fun p : Fin 24 × Bool => Φ (some p)) := by
  have e : (Finset.univ : Finset Key).erase none = Finset.univ.map Function.Embedding.some := by
    ext k; cases k <;> simp
  rw [bigSep_univ_at Φ none, e, bigSep_map]; rfl

/-- The slots of two buffers, one for each direction, in the messages' order. -/
theorem slots_in_order (M : Bool → Memref sig .tc .vmem S3x4x256x512 .bf16) (c : Dev nD) :
    (bigSep (Finset.Ico 0 24) fun n => slotAny (F := F) c (M (dir n)) (n / 2))
      = iprop(bigSep Finset.univ (fun i : Fin 12 => slotAny (F := F) c (M false) i.val)
        ∗ bigSep Finset.univ fun i : Fin 12 => slotAny (F := F) c (M true) i.val) := by
  rw [by_direction]
  refine congrArg₂ (fun a b => iprop(a ∗ b)) (bigSep_congr fun i _ => ?_) (bigSep_congr fun i _ => ?_)
  · rw [dir_even, Nat.mul_div_cancel_left _ (by decide : 0 < 2)]
  · rw [dir_odd, show (2 * i.val + 1) / 2 = i.val by omega]

/-! ## The kernel's own semaphores -/

/-- The transfer semaphores, which the kernel allocates. -/
def osem (p : Fin 24 × Bool) : SemLoc sig := keySem (some p)

/-- All of them at zero. -/
theorem ownSems_eq (c : Dev nD) : (Pipeline.ownSems0 (Ix := Unit) (Name := ℕ) (U := UU) (Lvl := ℕ) (Val := Elt F) (τ := τ) osem c : sProp 𝕄)
    = iprop(bigSep (Finset.Ico 0 24) (fun n => semVal (sendCell n c) 0) ∗ bigSep (Finset.Ico 0 24) fun n => semVal (recvCell n c) 0) := by
  unfold Pipeline.ownSems0; rw [by_side, by_index, by_index]; rfl

/-- The barrier semaphore is the one that outlives the kernel. -/
theorem unscoped_eq (c : Dev nD) : (unscopedSems0 c : sProp 𝕄) = semVal (barCell c) 0 := by
  unfold unscopedSems0; rw [bigSep_eq_bigSepL_of_eq [SemLoc.reg barS] (by decide) (by decide)]; rfl

/-! ## The contents -/

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- Device `c`'s `x` block, -/
def xOf (c : Dev nD) : Vec F S1024x1024 .bf16 :=
  (win0_0.blk (0 : Fin 1)).view.read (Elt F) ((s₀ m ρ).mem ((c : Thread nD τ).loc main_arg0))
/-- and its `dy` block. -/
def yOf (c : Dev nD) : Vec F S1024x4096 .bf16 :=
  (win0_1.blk (0 : Fin 1)).view.read (Elt F) ((s₀ m ρ).mem ((c : Thread nD τ).loc main_arg1))

/-- The eight column blocks make up the result. -/
theorem out_whole (X : Dev nD → Vec F S1024x1024 .bf16) (Y : Dev nD → Vec F S1024x4096 .bf16) (c : Dev nD) (f : S256x4096.Idx → Elt F .f32)
    (h : ∀ q < 8, q < 8 → ∀ j, f ((outR q).emb j) = outAt X Y c ((outR q).emb j)) : f = outAt X Y c := by
  funext i
  have h1 : (i 1).val < 4096 := (i 1).isLt
  have key : ∀ q < 8, colOf q ≤ (i 1).val → (i 1).val < colOf q + 512 → f i = outAt X Y c i := by
    intro q hq hlo hhi
    have e : (outR q).emb (fun a => match a with
        | ⟨0, _⟩ => i 0
        | ⟨1, _⟩ => ⟨(i 1).val - colOf q, by show _ < 512; omega⟩) = i := by
      funext a
      fin_cases a
      · refine Fin.ext ?_
        show 0 + 1 * (i 0).val = (i 0).val; omega
      · refine Fin.ext ?_
        show colOf q + 1 * ((i 1).val - colOf q) = (i 1).val; omega
    have h' := h q hq hq (fun a => match a with
        | ⟨0, _⟩ => i 0
        | ⟨1, _⟩ => ⟨(i 1).val - colOf q, by show _ < 512; omega⟩)
    rw [e] at h'
    exact h'
  by_cases hs : (i 1).val < 2048
  · refine key (2 * ((i 1).val / 512)) (by omega) ?_ ?_ <;> dsimp only [colOf] <;> omega
  · refine key (2 * (((i 1).val - 2048) / 512) + 1) (by omega) ?_ ?_ <;> dsimp only [colOf] <;> omega

/-! ## What a device starts from -/

/-- What the launch deals a device: every cell's record, its barrier's place, the tokens of the duties it pays and its
    places on its transfer cells. -/
def dealt (c : Dev nD) : sProp 𝕄 :=
  iprop(∃ K, records (xOf m ρ) (yOf m ρ) K
    ∗ (dutyTok ER (barCell (dst true c)) 0 false ∗ dutyTok ER (barCell (dst false c)) 0 true ∗ atPos ER (barCell c) 0 ∅ 0)
    ∗ bigSep (Finset.Ico 0 24) (tokens (F := F) c) ∗ bigSep (Finset.Ico 0 24) (sendAt (F := F) c)
    ∗ bigSep (Finset.Ico 0 24) fun n => atPos ER (recvCell n c) 0 ∅ 0)
/-- The credit it waits with on its barrier and on its receive cells. -/
def credits (c : Dev nD) : sProp 𝕄 :=
  iprop(cred (tallyAt (barCell c) () 2) ∗ bigSep (Finset.Ico 0 24) fun n => cred (tallyAt (recvCell n c) () N))
/-- What it enters the kernel with. -/
def start (c : Dev nD) : sProp 𝕄 := iprop(dealt m ρ c ∗ credits (F := F) c ∗ levAts L lv)

/-- Before the body: that, and the scratch buffers. -/
def Φ₀ (c : Dev nD) : sProp 𝕄 := iprop(start m ρ c ∗ Pipeline.scopedRest cfg0.spec c)
/-- After it: every semaphore at zero, and the scratch buffers. -/
def Φ₁ (c : Dev nD) : sProp 𝕄 :=
  iprop(unscopedSems0 c ∗ Pipeline.ownSems0 osem c ∗ Pipeline.scopedRest cfg0.spec c)

/-- The pipeline's data: the arguments stay, the result is `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xOf m ρ c
    | ⟨1, _⟩ => yOf m ρ c
    | ⟨2, _⟩ => outAt (xOf m ρ) (yOf m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_x (t : Fin cfg0.N) : (cfg0.win (0 : Fin 3)).fetch t = true := by rw [fin_N0 t]; rfl
theorem fetch_y (t : Fin cfg0.N) : (cfg0.win (1 : Fin 3)).fetch t = true := by rw [fin_N0 t]; rfl

/-- A staging buffer at contents `A`. -/
abbrev stg (c : Dev nD) (b : Ref sig .tc) (A : b.ty.Contents (Elt F)) : sProp 𝕄 :=
  owns (Ix := Unit) (Name := ℕ) (U := UU) (Lvl := ℕ) (c : Thread nD τ) (Memref.whole b) fullShare A

theorem stg_eq (c : Dev nD) (b : Ref sig .tc) (A : b.ty.Contents (Elt F)) :
    stg c b A = iprop(∃ f : Buf (Elt F) ((c : Thread nD τ).loc b), ⌜f = A⌝ ∗ (((c : Thread nD τ).loc b) ↦{fullShare} f)) := by
  unfold stg owns; simp only [Memref.view_whole, View.read_whole, View.set_whole]

/-- A buffer of slots, cut up, -/
theorem scratch_cut (c : Dev nD) {M : Memref sig .tc .vmem S3x4x256x512 .bf16} (hM : M.view.set = Finset.univ) :
    (iprop(∃ f, (M.view.loc (c : Thread nD τ) ↦{fullShare} f)) : sProp 𝕄) ⊢ bigSep Finset.univ fun i : Fin 12 => slotAny (F := F) c M i.val := by
  have h := slots_split (F := F) c M; rw [hM] at h; exact h
/-- and whole again. -/
theorem scratch_joined (c : Dev nD) {M : Memref sig .tc .vmem S3x4x256x512 .bf16} (hM : M.view.set = Finset.univ) :
    (bigSep Finset.univ fun i : Fin 12 => slotAny (F := F) c M i.val) ⊢ (iprop(∃ f, (M.view.loc (c : Thread nD τ) ↦{fullShare} f)) : sProp 𝕄) := by
  have h := slots_join (F := F) c M; rw [hM] at h; exact h

/-- The scratch buffers as the copy of `dy`'s and the slots. -/
theorem scratch_eq (c : Dev nD) : (Pipeline.scopedRest cfg0.spec c : sProp 𝕄)
    = iprop((∃ f, whole c cc0_scratch0 f)
      ∗ bigSep (Finset.Ico 0 24) (fun n => slotAny (F := F) c (sendM (dir n)) (n / 2))
      ∗ bigSep (Finset.Ico 0 24) fun n => slotAny (F := F) c (recvM (dir n)) (n / 2)) := by
  rw [scopedRest0_eq, slots_in_order, slots_in_order]
  refine equiv_iff.mp ⟨show (_ : sProp 𝕄) ⊢ _ from ?_, show (_ : sProp 𝕄) ⊢ _ from ?_⟩
  · iintro ⟨H0, H1, H2, H3, H4⟩
    ihave H1 := (scratch_cut c (M := sendM false) (View.set_whole _)) $$ H1
    ihave H2 := (scratch_cut c (M := recvM false) (View.set_whole _)) $$ H2
    ihave H3 := (scratch_cut c (M := sendM true) (View.set_whole _)) $$ H3
    ihave H4 := (scratch_cut c (M := recvM true) (View.set_whole _)) $$ H4
    iframe
  · iintro ⟨H0, ⟨H1, H3⟩, H2, H4⟩
    ihave H1 := (scratch_joined c (M := sendM false) (View.set_whole _)) $$ H1
    ihave H2 := (scratch_joined c (M := recvM false) (View.set_whole _)) $$ H2
    ihave H3 := (scratch_joined c (M := sendM true) (View.set_whole _)) $$ H3
    ihave H4 := (scratch_joined c (M := recvM true) (View.set_whole _)) $$ H4
    isplitl [H0]; · iexact H0
    isplitl [H1]; · iexact H1
    isplitl [H2]; · iexact H2
    isplitl [H3]; · iexact H3
    iexact H4

/-- What the body gives back. -/
def bodyPost (c : Dev nD) : sProp 𝕄 :=
  iprop(Φ₁ c ∗ (dats m ρ 0 c).owesAt () t0_0.succ ∗ stg c cc0_stg0_0 (xOf m ρ c) ∗ stg c cc0_stg1_0 (yOf m ρ c)
    ∗ stg c cc0_stg2_0 (outAt (xOf m ρ) (yOf m ρ) c))

/-- What `run_body` leaves is that. -/
theorem body_end (K : Dev nD × Key → ℕ) (c : Dev nD) : St (xOf m ρ) (yOf m ρ) K c 8 24 24 24 24 8 ⊢ bodyPost m ρ c := by
  have hs : (bigSep (Finset.range 24) (sent (F := F) c))
      = iprop(bigSep (Finset.Ico 0 24) (fun n => slotAny (F := F) c (sendM (dir n)) (n / 2)) ∗ bigSep (Finset.Ico 0 24) fun n => semVal (sendCell n c) 0) := by
    rw [Finset.range_eq_Ico, ← bigSep_sep']; rfl
  have hg : (bigSep (Finset.range 24) (got (xOf m ρ) (yOf m ρ) c))
      ⊢ iprop(bigSep (Finset.Ico 0 24) (fun n => slotAny (F := F) c (recvM (dir n)) (n / 2)) ∗ bigSep (Finset.Ico 0 24) fun n => semVal (recvCell n c) 0) := by
    rw [Finset.range_eq_Ico, ← bigSep_sep']
    refine bigSep_mono fun n _ => ?_
    unfold got slotAny
    exact sep_mono_left (exists_intro (Φ := fun A => slot (F := F) c (recvM (dir n)) (n / 2) A) _)
  unfold St bodyPost Φ₁ dyCopy outPart owing Dat.owesAt Pipeline.owesWithin
  rw [hs, stg_eq, stg_eq, stg_eq, scratch_eq, ownSems_eq, unscoped_eq, show (dats m ρ 0 c).owed t0_0.succ = 0 from rfl, O_end]
  iintro ⟨-, -, ⟨%W, HO⟩, -, -, -, -, -, -, ⟨Hs, Hs0⟩, Hg, Hx, Hy, ⟨%fd, -, Hd⟩, ⟨%fo, %hfo, Hout⟩, Hb⟩
  ihave Hg' := hg $$ Hg
  icases Hg' with ⟨Hr, Hr0⟩
  obtain rfl := out_whole _ _ c fo hfo
  isplitl [Hs Hs0 Hr Hr0 Hd Hb]
  · isplitl [Hb]; · iexact Hb
    isplitl [Hs0 Hr0]
    · isplitl [Hs0] <;> iassumption
    isplitl [Hd]; · iexists fd; iexact Hd
    isplitl [Hs] <;> iassumption
  isplitl [HO]
  · iexists W
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Hout

/-- What the body is given. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- It is what `run_body` starts from. -/
theorem body_start (c : Dev nD) : bodyPre m ρ c ⊢ iprop(∃ K, Start (xOf m ρ) (yOf m ρ) K c) := by
  unfold bodyPre Φ₀ start dealt credits Dat.owesAt Pipeline.owesWithin
  simp only [stg_eq]
  rw [scratch_eq, slots_in_order recvM, show (dats m ρ 0 c).owed t0_0.castSucc = O₀ c from rfl]
  iintro ⟨⟨⟨⟨%K, Hrec, ⟨Ht1, Ht2, Hat⟩, Htok, Hsa, Hra⟩, ⟨Hc, Hrc⟩, Hl⟩, ⟨%fd, Hd⟩, Hbl, Hsl⟩, ⟨%W, %hW, HO⟩,
    ⟨%d0, %g0, %hg0, Hx⟩, ⟨%d1, %g1, %hg1, Hy⟩, ⟨%d2, %g2, %hg2, Hout⟩⟩
  have hx : g0 = xOf m ρ c := by rw [hg0]; unfold Dat.before; rw [if_pos (fetch_x t0_0)]; rfl
  have hy : g1 = yOf m ρ c := by rw [hg1]; unfold Dat.before; rw [if_pos (fetch_y t0_0)]; rfl
  subst hx hy
  ihave Hr := (Entails.of_eq (bigSep_sep' (Finset.Ico 0 24) (fun n => (atPos ER (recvCell n c) 0 ∅ 0 : sProp 𝕄)) fun n => cred (tallyAt (recvCell n c) () N)).symm) $$ [Hra Hrc]
  · isplitl [Hra] <;> iassumption
  iexists K
  unfold Start
  isplitl [Hrec]; · iexact Hrec
  isplitl [Hl]; · iexact Hl
  isplitl [HO]; · iexists W; iexact HO
  isplitl [Ht1 Ht2 Hat Hc]
  · isplitl [Ht1]; · iexact Ht1
    isplitl [Ht2]; · iexact Ht2
    isplitl [Hat] <;> iassumption
  isplitl [Hsl]; · iexact Hsl
  isplitl [Htok]; · iexact Htok
  isplitl [Hsa]; · iexact Hsa
  isplitl [Hr]; · iexact Hr
  isplitl [Hbl]; · iexact Hbl
  isplitl [Hx]; · iexact Hx
  isplitl [Hy]; · iexact Hy
  isplitl [Hd]
  · unfold dyCopy; iexists fd
    isplitr; · ipureintro; intro q hq; exact absurd hq (Nat.not_lt_zero q)
    iexact Hd
  unfold outPart; iexists g2
  isplitr; · ipureintro; intro q hq; exact absurd hq (Nat.not_lt_zero q)
  iexact Hout

set_option maxRecDepth 20000 in
/-- The body does its part at the one grid point. -/
theorem body_obligation (c : Dev nD) : BodyObligation (dats (F := F) m ρ 0 c) (defs₀ (F := F)) 𝒱₀ () Set.univ := fun t => by
  rw [fin_N0 t]
  rw [show (∀ Φ : Fin cfg0.W → sProp 𝕄, bigSep Finset.univ Φ = iprop(Φ (0 : Fin 3) ∗ Φ (1 : Fin 3) ∗ Φ (2 : Fin 3))) from bigSep_W0]
  rw [show (∀ Φ : Fin cfg0.W → sProp 𝕄, bigSep Finset.univ Φ = iprop(Φ (0 : Fin 3) ∗ Φ (1 : Fin 3) ∗ Φ (2 : Fin 3))) from bigSep_W0]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        cc0_scratch5 cc0_scratch6 cc0_scratch7 cc0_scratch8) (fun _ => bodyPost m ρ c)
  exact (body_start m ρ c).trans (exists_elim fun K => run_body (xOf m ρ) (yOf m ρ) K (body_end m ρ K c))

end Cert.KernelIdealProof

end
-- ==== Proof.KernelIdealRun.lean ====
/-
# The launch and the run

The launch deals every device its cells, the tokens of the duties it pays on its neighbours' cells and the credit it
waits with; from these each device's body runs to the end (`body_obligation`), and every final state holds the arguments
as they were, the result `outAt` and every counter at zero.
-/
module

public import proofs.«01_k».proof.Proof.KernelIdealPoint
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells are distinct -/

theorem keySem_injective : Function.Injective keySem := by
  have ne : ∀ n n' : Fin 24, (SemLoc.dma (sendS n.val) : SemLoc sig) ≠ .dma (recvS n'.val) := fun n n' h => by
    injection h with h
    have := congrArg isRecv h
    rw [isRecv_sendS n.isLt, isRecv_recvS n'.isLt] at this
    exact absurd this (by decide)
  rintro (_ | ⟨n, _ | _⟩) (_ | ⟨n', _ | _⟩) h
  · rfl
  · exact absurd h (fun h => by cases h)
  · exact absurd h (fun h => by cases h)
  · exact absurd h (fun h => by cases h)
  · have h' : (SemLoc.dma (sendS n.val) : SemLoc sig) = .dma (sendS n'.val) := h
    injection h' with h'
    have e := congrArg msgOf h'
    rw [msgOf_sendS n.isLt, msgOf_sendS n'.isLt] at e
    rw [Fin.ext e]
  · exact absurd h (ne n n')
  · exact absurd h (fun h => by cases h)
  · exact absurd h.symm (ne n' n)
  · have h' : (SemLoc.dma (recvS n.val) : SemLoc sig) = .dma (recvS n'.val) := h
    injection h' with h'
    have e := congrArg msgOf h'
    rw [msgOf_recvS n.isLt, msgOf_recvS n'.isLt] at e
    rw [Fin.ext e]

theorem kcell_injective : Function.Injective kcell := by
  rintro ⟨c, k⟩ ⟨c', k'⟩ h
  have h1 : c = c' := congrArg (fun g : GSem nD τ sig => g.1.1) h
  have h2 : k = k' := keySem_injective (congrArg Prod.snd h)
  rw [h1, h2]

/-- The kernel's own semaphores are scoped, distinct and none of the pipeline's. -/
theorem ownSemFacts : Pipeline.OwnSemFacts cfg0.spec osem where
  isScoped := by rintro ⟨n, _ | _⟩ <;> revert n <;> decide
  inj := fun p p' h => Option.some.inj (keySem_injective h)
  disj := by
    have h1 : ∀ p, isSend p || isRecv p → 3 ≤ p.val := fun p hp => by
      unfold isSend isRecv at hp
      by_contra h
      rw [decide_eq_false h] at hp
      simp at hp
    have h2 : ∀ (w : Fin 3) (s : Fin (spec0 w).nbuf), ((spec0 w).sem s).val < 3 := by decide
    rintro ⟨n, _ | _⟩ w s h
    · have h' : (SemLoc.dma (sendS n.val) : SemLoc sig) = .dma ((spec0 w).sem s) := h
      injection h' with h'
      have := h2 w s
      rw [← h'] at this
      have := h1 (sendS n.val) (by rw [isSend_sendS n.isLt]; rfl)
      omega
    · have h' : (SemLoc.dma (recvS n.val) : SemLoc sig) = .dma ((spec0 w).sem s) := h
      injection h' with h'
      have := h2 w s
      rw [← h'] at this
      have := h1 (recvS n.val) (by rw [isRecv_recvS n.isLt, Bool.or_true])
      omega

theorem share_eq (c : Dev nD) (w : Fin cfg0.W) : (dats m ρ 0 c).share w = fullShare := by unfold Dat.share; split <;> rfl

/-! ## The ghost state the launch makes -/

/-- Every cell of the exchange. -/
def cells : Finset (GSem nD τ sig) := Finset.univ.map ⟨kcell, kcell_injective⟩

/-- The duties' tokens: each cell's `false`, and the barrier cells' `true` besides. -/
def tokOf (x : Dev nD × (Key ⊕ Unit)) : GSem nD τ sig × ℕ × Bool :=
  match x.2 with
  | .inl k => (kcell (x.1, k), 0, false)
  | .inr _ => (barCell x.1, 0, true)
theorem tokOf_injective : Function.Injective tokOf := by
  rintro ⟨c, k | ⟨⟩⟩ ⟨c', k' | ⟨⟩⟩ h
  · have e := kcell_injective (congrArg Prod.fst h)
    obtain ⟨rfl, rfl⟩ : c = c' ∧ k = k' := ⟨congrArg Prod.fst e, congrArg Prod.snd e⟩
    rfl
  · exact absurd (congrArg (fun x : GSem nD τ sig × ℕ × Bool => x.2.2) h) (fun h => by cases h)
  · exact absurd (congrArg (fun x : GSem nD τ sig × ℕ × Bool => x.2.2) h) (fun h => by cases h)
  · have e : c = c' := congrArg (fun x : GSem nD τ sig × ℕ × Bool => x.1.1.1) h
    rw [e]
def toksAll : Finset (GSem nD τ sig × ℕ × Bool) := Finset.univ.map ⟨tokOf, tokOf_injective⟩

/-- The launch's element: the pipeline's rounds and the exchange's. -/
def u₀ : UU :=
  (initOf (Pipeline.cells cfgs cellOf_inj) (Pipeline.launchToks cfgs cellOf_inj), initOf cells toksAll)

/-- The tokens of a device's own cells. -/
def toks (c : Dev nD) : sProp 𝕄 :=
  iprop((bigSep Finset.univ fun k : Key => dutyTok ER (kcell (c, k)) 0 false) ∗ dutyTok ER (barCell c) 0 true)

/-- What the element deals a device: its own cells' state, places and tokens. -/
def G (c : Dev nD) : sProp 𝕄 :=
  iprop((bigSep Finset.univ fun k : Key => roundState ER (rd (xOf m ρ) (yOf m ρ)) (kcell (c, k)) 0)
    ∗ (bigSep Finset.univ fun k : Key => iprop(atPos ER (kcell (c, k)) 0 ∅ 0 ∗ reached ER (kcell (c, k)) 0)) ∗ toks (F := F) c)

/-- A family over the exchange's cells, device by device. -/
theorem cells_eq (Φ : GSem nD τ sig → sProp 𝕄) :
    bigSep cells Φ = bigSep Finset.univ fun c : Dev nD => bigSep Finset.univ fun k : Key => Φ (kcell (c, k)) := by
  unfold cells; rw [bigSep_map, bigSep_univ_prod]; rfl
/-- The tokens, device by device. -/
theorem toks_eq : bigSep toksAll (fun x => (dutyTok ER x.1 x.2.1 x.2.2 : sProp 𝕄)) = bigSep Finset.univ fun c : Dev nD => toks (F := F) c := by
  unfold toksAll; rw [bigSep_map, bigSep_univ_prod]
  exact bigSep_congr fun c _ => by
    rw [toks, bigSep_univ_sum, bigSep_univ_of_subsingleton ()]
    rfl

/-- The exchange's part of the element, dealt. -/
theorem fund : BI.own (ER (initOf cells toksAll)) ⊢ (|==> bigSep Finset.univ (G m ρ) : sProp 𝕄) := by
  iintro HX
  imod (Rounds.fund ER (rd (xOf m ρ) (yOf m ρ)) cells toksAll) $$ HX with ⟨Hst, Hr, Hat, Htok⟩
  imodintro
  ihave Hst' := (Entails.of_eq (cells_eq fun g => roundState ER (rd (xOf m ρ) (yOf m ρ)) g 0)) $$ Hst
  ihave Hat' := (Entails.of_eq (cells_eq fun g => (atPos ER g 0 ∅ 0 : sProp 𝕄))) $$ Hat
  ihave Hr' := (Entails.of_eq (cells_eq fun g => (reached ER g 0 : sProp 𝕄))) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

/-- A device's semaphores at zero, cell by cell. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (kcell (c, k)) 0 : sProp 𝕄) := by
  rw [by_key, unscoped_eq]
  unfold Pipeline.ownSems0
  iintro ⟨H1, H2⟩
  isplitl [H2]; · iexact H2
  iexact H1

/-- Every cell of a device gets its invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Key => iprop(∃ κ : ℕ, cellInv ER (rd (xOf m ρ) (yOf m ρ)) κ (kcell (c, k))))
          ∗ (bigSep Finset.univ fun k : Key => iprop(atPos ER (kcell (c, k)) 0 ∅ 0 ∗ reached ER (kcell (c, k)) 0)) ∗ toks (F := F) c) := by
  have alloc : iprop((bigSep Finset.univ fun k : Key => semVal (kcell (c, k)) 0) ∗ bigSep Finset.univ fun k : Key => roundState ER (rd (xOf m ρ) (yOf m ρ)) (kcell (c, k)) 0)
      ⊢ (|={Set.univ}=> bigSep Finset.univ fun k : Key => iprop(∃ κ : ℕ, cellInv ER (rd (xOf m ρ) (yOf m ρ)) κ (kcell (c, k))) : sProp 𝕄) := by
    rw [← bigSep_sep']
    exact (bigSep_mono fun k _ => (Rounds.body_intro ER (rd (xOf m ρ) (yOf m ρ)) (kcell (c, k))).trans inv_alloc).trans (bigSep_fupd _ _)
  unfold G
  iintro ⟨Hos, Hus, Hst, Hat, Htok⟩
  ihave Hv := (sems_eq (F := F) c) $$ [Hos Hus]
  · isplitl [Hos] <;> iassumption
  imod alloc $$ [Hv Hst] with Hinv
  · isplitl [Hv] <;> iassumption
  imodintro
  isplitl [Hinv]; · iexact Hinv
  isplitl [Hat]; · iexact Hat
  iexact Htok

/-! ## Tokens go to the devices that pay -/

/-- The tokens of the duties a device pays. -/
def payToks (c : Dev nD) : sProp 𝕄 :=
  iprop((dutyTok ER (barCell (dst true c)) 0 false ∗ dutyTok ER (barCell (dst false c)) 0 true) ∗ bigSep (Finset.Ico 0 24) (tokens (F := F) c))

/-- Every message's destination, as a permutation of the pairs of a device and a message. -/
def routes : Dev nD × Fin 24 ≃ Dev nD × Fin 24 where
  toFun p := (dst (dir p.2.val) p.1, p.2)
  invFun p := (src (dir p.2.val) p.1, p.2)
  left_inv p := by simp only [src_dst]
  right_inv p := by simp only [dst_src]

/-- Summed over the devices, what belongs to the receive cells is what belongs to the destinations' receive cells. -/
theorem recv_around (Φ : ℕ → Dev nD → sProp 𝕄) :
    (bigSep Finset.univ fun c : Dev nD => bigSep (Finset.Ico 0 24) fun n => Φ n c)
      = bigSep Finset.univ fun c : Dev nD => bigSep (Finset.Ico 0 24) fun n => Φ n (dst (dir n) c) := by
  have e : ∀ Ψ : ℕ → Dev nD → sProp 𝕄, (bigSep Finset.univ fun c : Dev nD => bigSep (Finset.Ico 0 24) fun n => Ψ n c)
      = bigSep Finset.univ fun p : Dev nD × Fin 24 => Ψ p.2.val p.1 := fun Ψ => by
    rw [bigSep_univ_prod]
    exact bigSep_congr fun c _ => by_index _
  rw [e, e (fun n c => Φ n (dst (dir n) c)), bigSep_univ_equiv routes]
  rfl

/-- So the tokens of the devices' own cells are those of the duties the devices pay. -/
theorem toks_around : (bigSep Finset.univ fun c : Dev nD => toks (F := F) c) ⊢ bigSep Finset.univ fun c : Dev nD => payToks (F := F) c := by
  have h1 : ∀ c : Dev nD, toks (F := F) c = iprop((dutyTok ER (barCell c) 0 false
      ∗ bigSep (Finset.Ico 0 24) (fun n => dutyTok ER (sendCell n c) 0 false) ∗ bigSep (Finset.Ico 0 24) fun n => dutyTok ER (recvCell n c) 0 false)
      ∗ dutyTok ER (barCell c) 0 true) := fun c => by
    rw [toks, by_key, by_side, by_index, by_index]; rfl
  have h2 : ∀ c : Dev nD, payToks (F := F) c = iprop((dutyTok ER (barCell (dst true c)) 0 false ∗ dutyTok ER (barCell (dst false c)) 0 true)
      ∗ bigSep (Finset.Ico 0 24) (fun n => dutyTok ER (sendCell n c) 0 false) ∗ bigSep (Finset.Ico 0 24) fun n => dutyTok ER (recvCell n (dst (dir n) c)) 0 false) :=
    fun c => by rw [payToks, ← bigSep_sep']; rfl
  rw [bigSep_congr fun c _ => h1 c, bigSep_congr fun c _ => h2 c]
  simp only [bigSep_sep']
  rw [recv_around (fun n c => (dutyTok ER (recvCell n c) 0 false : sProp 𝕄)),
    bigSep_univ_equiv (ring true) (fun c : Dev nD => (dutyTok ER (barCell c) 0 false : sProp 𝕄)),
    bigSep_univ_equiv (ring false) (fun c : Dev nD => (dutyTok ER (barCell c) 0 true : sProp 𝕄))]
  iintro ⟨⟨H1, H2, H3⟩, H4⟩
  isplitl [H1 H4]
  · isplitl [H1]; · iexact H1
    iexact H4
  isplitl [H2]; · iexact H2
  iexact H3

/-- What stays with a device: its places and the tokens it pays with. -/
def linear (c : Dev nD) : sProp 𝕄 :=
  iprop((bigSep Finset.univ fun k : Key => atPos ER (kcell (c, k)) 0 ∅ 0) ∗ payToks (F := F) c)

theorem dealt_intro (K : Dev nD × Key → ℕ) (c : Dev nD) : iprop(records (xOf m ρ) (yOf m ρ) K ∗ linear (F := F) c) ⊢ dealt m ρ c := by
  have h : (bigSep Finset.univ fun k : Key => (atPos ER (kcell (c, k)) 0 ∅ 0 : sProp 𝕄))
      = iprop(atPos ER (barCell c) 0 ∅ 0 ∗ bigSep (Finset.Ico 0 24) (sendAt (F := F) c) ∗ bigSep (Finset.Ico 0 24) fun n => atPos ER (recvCell n c) 0 ∅ 0) := by
    rw [by_key, by_side, by_index, by_index]; rfl
  unfold linear payToks dealt
  rw [h]
  iintro ⟨HR, ⟨H1, H2, H3⟩, ⟨H4, H5⟩, H6⟩
  iexists K
  isplitl [HR]; · iexact HR
  isplitl [H1 H4 H5]
  · isplitl [H4]; · iexact H4
    isplitl [H5] <;> iassumption
  isplitl [H6]; · iexact H6
  isplitl [H2] <;> iassumption

/-- A persistent assertion serves every summand. -/
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Key => iprop(∃ κ : ℕ, cellInv ER (rd (xOf m ρ) (yOf m ρ)) κ (kcell (c, k))))
          ∗ (bigSep Finset.univ fun k : Key => iprop(atPos ER (kcell (c, k)) 0 ∅ 0 ∗ reached ER (kcell (c, k)) 0)) ∗ toks (F := F) c) : sProp 𝕄)
      ⊢ bigSep Finset.univ (dealt m ρ) := by
  rw [bigSep_sep', bigSep_sep', ← bigSep_univ_prod (fun p : Dev nD × Key => iprop(∃ κ : ℕ, cellInv ER (rd (xOf m ρ) (yOf m ρ)) κ (kcell p))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun p : Dev nD × Key => (reached ER (kcell p) 0 : sProp 𝕄))]
  iintro ⟨HI, ⟨Hat, HR⟩, Htok⟩
  ihave HK := (BI.bigSep_exists_pi Finset.univ (fun (p : Dev nD × Key) (κ : ℕ) => (cellInv ER (rd (xOf m ρ) (yOf m ρ)) κ (kcell p) : sProp 𝕄))) $$ HI
  icases HK with ⟨%K, HI⟩
  ihave Htk := (toks_around (F := F)) $$ Htok
  iapply (with_each (R := records (xOf m ρ) (yOf m ρ) K) fun c _ => dealt_intro m ρ K c)
  isplitl [HI HR]
  · unfold records; rw [bigSep_sep']
    isplitl [HI] <;> iassumption
  · iapply (Entails.of_eq (bigSep_sep' Finset.univ (fun c : Dev nD => bigSep Finset.univ fun k : Key => (atPos ER (kcell (c, k)) 0 ∅ 0 : sProp 𝕄)) (payToks (F := F))).symm)
    isplitl [Hat] <;> iassumption

/-- All devices' cells are set up at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (dealt m ρ) :=
  ((bigSep_mono fun c _ => core_alloc m ρ c).trans (bigSep_fupd _ _)).trans (BI.fupd_mono (regroup m ρ))

/-! ## The launch's credit -/

theorem bar_eq_iff {a b : Dev nD} : barCell a = barCell b ↔ a = b :=
  ⟨fun h => congrArg (fun g : GSem nD τ sig => g.1.1) h, fun h => h ▸ rfl⟩
theorem recv_eq_iff {n i : ℕ} (hn : n < 24) (hi : i < 24) {a b : Dev nD} : recvCell n a = recvCell i b ↔ n = i ∧ a = b := by
  constructor
  · intro h
    have h1 : (SemLoc.dma (recvS n) : SemLoc sig) = .dma (recvS i) := congrArg Prod.snd h
    injection h1 with h1
    have e := congrArg msgOf h1
    rw [msgOf_recvS hn, msgOf_recvS hi] at e
    exact ⟨e, congrArg (fun g : GSem nD τ sig => g.1.1) h⟩
  · rintro ⟨rfl, rfl⟩; rfl
theorem dst_eq_iff (d : Bool) (a b : Dev nD) : a = dst d b ↔ b = src d a :=
  ⟨fun h => by rw [h, src_dst], fun h => by rw [h, dst_src]⟩

/-- What device `d` owes device `c`'s barrier cell: a unit for each neighbour it is. -/
theorem owed_bar (d c : Dev nD) : O₀ d (barCell c) () = (if d = src false c then 1 else 0) + (if d = src true c then 1 else 0) := by
  have h0 : O d 0 (barCell c) () = 0 := by
    by_contra h
    obtain ⟨i, _, _, e⟩ := O_pos (Nat.pos_of_ne_zero h)
    exact absurd (congrArg Prod.snd e) (fun h => by cases h)
  unfold O₀ O₁
  rw [Pi.add_apply, Finsupp.add_apply, Pi.add_apply, Finsupp.add_apply, h0, tallyAt_apply, tallyAt_apply, Nat.zero_add]
  simp only [bar_eq_iff, dst_eq_iff, and_true]

/-- What it owes the receive cell of message `n` there: a block's credit if it sends it. -/
theorem owed_recv {n : ℕ} (hn : n < 24) (d c : Dev nD) : O₀ d (recvCell n c) () = if d = src (dir n) c then N else 0 := by
  have h1 : ∀ a : Dev nD, ¬ (recvCell n c = barCell a ∧ () = ()) := fun a h => by
    exact absurd (congrArg Prod.snd h.1) (fun h => by cases h)
  unfold O₀ O₁ O
  rw [Pi.add_apply, Finsupp.add_apply, Pi.add_apply, Finsupp.add_apply, tallyAt_apply, tallyAt_apply, if_neg (h1 _), if_neg (h1 _)]
  simp only [add_zero]
  rw [Finset.sum_apply, Finsupp.finset_sum_apply]
  rw [Finset.sum_eq_single n]
  · rw [tallyAt_apply]; simp only [recv_eq_iff hn hn, dst_eq_iff, true_and, and_true]
  · intro i hi hne
    rw [tallyAt_apply, if_neg]
    rintro ⟨h, -⟩
    exact hne ((recv_eq_iff hn (Finset.mem_Ico.mp hi).2).mp h).1.symm
  · intro h; exact absurd (Finset.mem_Ico.mpr ⟨Nat.zero_le _, hn⟩) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (src false c) fun _ => 1, Finset.sum_ite_eq' Finset.univ (src true c) fun _ => 1, if_pos (Finset.mem_univ _), if_pos (Finset.mem_univ _)]

theorem launch_recv {n : ℕ} (hn : n < 24) (c : Dev nD) :
    tallyOn (recvCell n c) (launchCredit (Pipeline.owing O₀) 0 (recvCell n c)) = (tallyAt (recvCell n c) () N : CellTallies nD τ sig Unit) := by
  unfold tallyAt; refine congrArg _ (Finsupp.ext fun u => ?_); cases u
  rw [Pipeline.launchCredit_owing, Finsupp.single_eq_same, Finset.sum_congr rfl fun d _ => owed_recv hn d c,
    Finset.sum_ite_eq' Finset.univ (src (dir n) c) fun _ => N, if_pos (Finset.mem_univ _)]

/-- The launch's credit holds what a device waits with. -/
theorem credits_intro (c : Dev nD) : (Pipeline.launchCred O₀ c : sProp 𝕄) ⊢ credits (F := F) c := by
  have hinj : Set.InjOn (fun n => (SemLoc.dma (recvS n) : SemLoc sig)) (Finset.Ico 0 24 : Finset ℕ) := fun a ha b hb h => by
    have h' : (SemLoc.dma (recvS a) : SemLoc sig) = .dma (recvS b) := h
    injection h' with h'
    have e := congrArg msgOf h'
    rwa [msgOf_recvS (Finset.mem_Ico.mp (Finset.mem_coe.mp ha)).2, msgOf_recvS (Finset.mem_Ico.mp (Finset.mem_coe.mp hb)).2] at e
  have hsub : (Finset.Ico 0 24).image (fun n => (SemLoc.dma (recvS n) : SemLoc sig)) ⊆ Finset.univ.erase (SemLoc.reg barS) := fun s hs => by
    obtain ⟨n, _, rfl⟩ := Finset.mem_image.mp hs
    exact Finset.mem_erase.mpr ⟨(fun h => nomatch h), Finset.mem_univ _⟩
  unfold Pipeline.launchCred credits
  rw [bigSep_univ_at _ (SemLoc.reg barS), launch_bar]
  refine sep_mono_right ((bigSep_subset hsub).trans ?_)
  rw [bigSep_image_of_injOn hinj]
  exact bigSep_mono fun n hn => Entails.of_eq (congrArg cred (launch_recv (Finset.mem_Ico.mp hn).2 c))

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(start m ρ c ∗ emp) := by
  iintro ⟨-, Hlev, Hcr, -, HG⟩
  ihave Hc := (credits_intro (F := F) c) $$ Hcr
  imodintro
  unfold start
  isplitl
  · isplitl [HG]; · iexact HG
    isplitl [Hc]; · iexact Hc
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro H
  iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a windowed array holds at the end. -/
def finalA (c : Dev nD) (w : Fin cfg0.W) : Buf (Elt F) ((cfg0.win w).arr.view.loc (c : Thread nD τ)) := (dats m ρ 0 c).arrAt w cfg0.N

/-- Every array of every device holds that. -/
def Done : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- From any memory with zero counters, every weakly fair execution of the four devices terminates without a fault, and
    every final state has each device's arrays at `finalA` and every counter at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := dealt m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x` ends as it was, -/
theorem final_x (c : Dev nD) : finalA m ρ c (0 : Fin 3) = m ((c : Thread nD τ).loc main_arg0) :=
  (dats (F := F) m ρ 0 c).arrAt_in (0 : Fin 3) rfl _
/-- and `dy`. -/
theorem final_y (c : Dev nD) : finalA m ρ c (1 : Fin 3) = m ((c : Thread nD τ).loc main_arg1) :=
  (dats (F := F) m ρ 0 c).arrAt_in (1 : Fin 3) rfl _

end Cert.KernelIdealProof

end
-- ==== Proof.Products.lean ====
/-
# What the ring computes, over the extended reals

At the ideal values a change of format changes nothing and sums may be taken in any order. Column block `q` of device
`c`'s result is then the sum, over the four devices, of the product of chunk `c` of that device's `x` columns with block
`q` of its `dy` columns, each product a sum over the device's 1024 rows (`outAt_sum`). The product over all 4096 rows is
that same sum, the rows taken device by device (`whole_sum`).
-/
module

public import proofs.«01_k».proof.Proof.KernelIdealSteps
public import Idealize.ShloMosaic.Lib.Pointwise
public import Idealize.ShloMosaic.Lib.ValueIdx
public import Idealize.ShloMosaic.Lib.Layout

@[expose] public section

noncomputable section

namespace Cert.Products

open Cert.KernelIdeal Cert.KernelIdeal.Gen Cert.KernelIdealProof
open Idealize.ShloMosaic
open scoped BigOperators

/-! ## One product -/

/-- An element of a product of two loaded blocks: the sum over their 1024 rows. -/
theorem mm_at (vx : Vec Ideal S1024x256 .bf16) (vy : Vec Ideal S1024x512 .bf16) (j : S256x512.Idx) :
    mm (F := Ideal) vx vy j = ∑ k : Fin 1024, vx (ix2 k (j 0)) * vy (ix2 k (j 1)) := by
  pointwise [mm]

variable (X : Dev nD → Vec Ideal S1024x1024 .bf16) (Y : Dev nD → Vec Ideal S1024x4096 .bf16)

/-- Device `d`'s share of element `(r, l)` of the product of its `x` block, transposed, with its `dy` block. -/
def share (d : Dev nD) (r : Fin 1024) (l : Fin 4096) : EReal := ∑ k : Fin 1024, X d (ix2 k r) * Y d (ix2 k l)

/-- The row of the whole product that row `r` of chunk `c` is. -/
def rowOf (c : Fin 4) (r : Fin 256) : Fin 1024 := ⟨256 * c.val + r.val, by omega⟩
/-- The column of the whole product that column `l` of block `q` is. -/
def columnOf (q : ℕ) (l : Fin 512) : Fin 4096 := ⟨colOf q + l.val, by show q % 8 / 2 * 512 + q % 2 * 2048 + _ < _; omega⟩

/-- A device's contribution at a stage is its share, at the rows of the chunk it multiplies there. -/
theorem part_at (q h : ℕ) (d : Dev nD) (j : S256x512.Idx) :
    part (F := Ideal) X Y q h d j = share X Y d (rowOf (chunk (dir q) h d) (j 0)) (columnOf q (j 1)) := by
  unfold part share
  rw [mm_at]
  refine Finset.sum_congr rfl fun k _ => ?_
  congr 1
  · refine congrArg (X d) (funext fun a => ?_)
    fin_cases a
    · exact Fin.ext (show 0 + 1 * k.val = k.val by omega)
    · exact Fin.ext (show 256 * (chunk (dir q) h d).val + 1 * (j 0).val = 256 * (chunk (dir q) h d).val + (j 0).val by omega)
  · refine congrArg (Y d) (funext fun a => ?_)
    fin_cases a
    · exact Fin.ext (show 0 + 1 * k.val = k.val by omega)
    · exact Fin.ext (show colOf q + 1 * (j 1).val = colOf q + (j 1).val by omega)

/-! ## The sum around the ring -/

/-- Stage by stage, the partial sums add up the contributions on the way. -/
theorem acc_succ (q h : ℕ) (c : Dev nD) (j : S256x512.Idx) :
    acc (F := Ideal) X Y q (h + 1) c j = acc (F := Ideal) X Y q h (src (dir q) c) j + part (F := Ideal) X Y q (h + 1) c j := rfl

/-- On the way to device `c`, every device multiplies chunk `c`. -/
theorem chunk_on_way (b : Bool) (c : Dev nD) :
    chunk b 3 c = c ∧ chunk b 2 (src b c) = c ∧ chunk b 1 (src b (src b c)) = c ∧ chunk b 0 (src b (src b (src b c))) = c := by
  revert b c; decide

/-- The four devices on the way to `c` are all four. -/
theorem sum_on_way (b : Bool) (c : Dev nD) (f : Dev nD → EReal) :
    f (src b (src b (src b c))) + f (src b (src b c)) + f (src b c) + f c = ∑ d, f d := by
  have h : ∀ (b : Bool) (c : Dev nD), (Finset.univ : Finset (Dev nD)) = {src b (src b (src b c)), src b (src b c), src b c, c}
      ∧ src b (src b (src b c)) ∉ ({src b (src b c), src b c, c} : Finset (Dev nD))
      ∧ src b (src b c) ∉ ({src b c, c} : Finset (Dev nD)) ∧ src b c ∉ ({c} : Finset (Dev nD)) := by decide
  obtain ⟨h0, h1, h2, h3⟩ := h b c
  rw [h0, Finset.sum_insert h1, Finset.sum_insert h2, Finset.sum_insert h3, Finset.sum_singleton, add_assoc, add_assoc]

/-- The full sum of a column block on device `c`: all devices' shares at the rows of chunk `c`. -/
theorem acc_sum (q : ℕ) (c : Dev nD) (j : S256x512.Idx) :
    acc (F := Ideal) X Y q 3 c j = ∑ d, share X Y d (rowOf c (j 0)) (columnOf q (j 1)) := by
  obtain ⟨h3, h2, h1, h0⟩ := chunk_on_way (dir q) c
  rw [acc_succ, acc_succ, acc_succ]
  show part (F := Ideal) X Y q 0 _ j + _ + _ + _ = _
  rw [part_at, part_at, part_at, part_at, h0, h1, h2, h3]
  exact sum_on_way (dir q) c fun d => share X Y d (rowOf c (j 0)) (columnOf q (j 1))

/-- The result on device `c`, at row `i 0` and column `i 1`: all devices' shares there. -/
theorem outAt_sum (c : Dev nD) (i : S256x4096.Idx) :
    outAt (F := Ideal) X Y c i = ∑ d, share X Y d (rowOf c (i 0)) (i 1) := by
  unfold outAt
  rw [acc_sum]
  refine Finset.sum_congr rfl fun d _ => congrArg (share X Y d (rowOf c (i 0))) (Fin.ext ?_)
  have h1 : (i 1).val < 4096 := (i 1).isLt
  show colOf _ + (i 1).val % 512 = (i 1).val
  generalize (i 1).val = x at h1
  show (_ % 8 / 2 * 512 + _ % 2 * 2048) + _ = _
  split <;> omega

/-! ## The product over all rows -/

/-- A row of the whole is row `k` of some device `d`'s block. -/
def wholeRow (d : Fin 4) (k : Fin 1024) : Fin 4096 := ⟨1024 * d.val + k.val, by omega⟩

/-- A sum over all the rows, taken block by block. -/
theorem sum_rows (f : Fin 4096 → EReal) : ∑ k, f k = ∑ d : Fin 4, ∑ k : Fin 1024, f (wholeRow d k) := by
  rw [← Fintype.sum_prod_type' (f := fun d k => f (wholeRow d k))]
  refine (Fintype.sum_equiv (finProdFinEquiv (m := 4) (n := 1024)) _ f fun p => congrArg f (Fin.ext ?_)).symm
  show 1024 * p.1.val + p.2.val = p.2.val + 1024 * p.1.val
  omega

end Cert.Products

end
-- ==== Proof.Value.lean ====
/-
# The result is the reference's

Every device's result buffer ends holding its 256 rows of the product that the reference takes of the whole arrays: both
are the sum of all devices' shares (Proof/Products.lean).
-/
module

public import proofs.«01_k».proof.Proof.KernelIdealRun
public import proofs.«01_k».proof.Proof.Products
public import proofs.«01_k».proof.Proof.Gen.ReferenceIdeal.Run

@[expose] public section

noncomputable section

namespace Cert.Products

open Cert.KernelIdeal Cert.KernelIdeal.Gen Cert.KernelIdealProof
open Idealize.ShloMosaic Idealize.ShloMosaic.TcCoe Idealize.SL.Sem
open scoped BigOperators

/-! ## What the kernel leaves -/

section Final
variable {F : FTy → Type} [FloatOps F] (m : (ℓ : Loc nD τ sig) → Buf (Elt F) ℓ) (ρ : Dev nD → PrngReg)

/-- The kernel reads the whole of a device's `x` block, -/
theorem xOf_eq (c : Dev nD) : xOf m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
/-- the whole of its `dy` block, -/
theorem yOf_eq (c : Dev nD) : yOf m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
/-- and writes the whole of its result. -/
theorem final_out (c : Dev nD) : finalA m ρ c (2 : Fin 3) = outAt (xOf m ρ) (yOf m ρ) c := by
  have h : (win0_2.blk (0 : Fin 1)).view.read (Elt F) (finalA m ρ c (2 : Fin 3)) = outAt (xOf m ρ) (yOf m ρ) c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans h

end Final

/-! ## What the reference leaves -/

/-- The reference's result of whole arrays `x` and `y`. -/
def product (x : Vec Ideal Cert.ReferenceIdeal.S4096x1024 .bf16) (y : Vec Ideal Cert.ReferenceIdeal.S4096x4096 .bf16) :
    Vec Ideal Cert.ReferenceIdeal.S1024x4096 .f32 :=
  extf .f32 (truncf .bf16 (Host.dotGeneral (F := Ideal) (φ₁ := .bf16) (φ₂ := .bf16)
      Cert.ReferenceIdeal.dot_S1024x4096_S4096x4096_S1024x4096_1_0_0_1_n_n none
      (transpose Cert.ReferenceIdeal.S1024x4096 [1, 0] x Cert.ReferenceIdeal.Gen.transposes_S4096x1024_S1024x4096_1_0) y)
    Cert.ReferenceIdeal.Gen.bitsLt_bf16_f32) Cert.ReferenceIdeal.Gen.bitsLt_bf16_f32

/-- An element of it: a sum over all the rows. -/
theorem product_at (x : Vec Ideal Cert.ReferenceIdeal.S4096x1024 .bf16) (y : Vec Ideal Cert.ReferenceIdeal.S4096x4096 .bf16)
    (i : Cert.ReferenceIdeal.S1024x4096.Idx) : product x y i = ∑ k : Fin 4096, x (ix2 k (i 0)) * y (ix2 k (i 1)) := by
  pointwise [product]

/-! ## They agree -/

/-- The whole `x` at a row of device `d`'s block is that block at the row, -/
theorem x_block (x : Vec Ideal Cert.ReferenceIdeal.S4096x1024 .bf16) (d : Dev nD) (k : Fin 1024) (r : Fin 1024) :
    Layout.block (⟨2, ![1024, 1024]⟩ : Shape) (⟨2, ![4096, 1024]⟩ : Shape) 0 4 d x (by decide) (ix2 k r) = x (ix2 (wholeRow d k) r) := by
  rw [Layout.block_apply]
  refine congrArg x (funext fun a => Fin.ext ?_)
  rw [Layout.Tiles.idx_val]
  fin_cases a
  · show d.val * 1024 + k.val = 1024 * d.val + k.val; omega
  · rfl
/-- and so is the whole `dy`. -/
theorem y_block (y : Vec Ideal Cert.ReferenceIdeal.S4096x4096 .bf16) (d : Dev nD) (k : Fin 1024) (l : Fin 4096) :
    Layout.block (⟨2, ![1024, 4096]⟩ : Shape) (⟨2, ![4096, 4096]⟩ : Shape) 0 4 d y (by decide) (ix2 k l) = y (ix2 (wholeRow d k) l) := by
  rw [Layout.block_apply]
  refine congrArg y (funext fun a => Fin.ext ?_)
  rw [Layout.Tiles.idx_val]
  fin_cases a
  · show d.val * 1024 + k.val = 1024 * d.val + k.val; omega
  · rfl

/-- Device `c`'s result, of the devices' blocks of `x` and `y`, is block `c` of the reference's result of `x` and `y`. -/
theorem outAt_block_of (x : Vec Ideal Cert.ReferenceIdeal.S4096x1024 .bf16) (y : Vec Ideal Cert.ReferenceIdeal.S4096x4096 .bf16) (c : Dev nD) :
    outAt (F := Ideal) (fun d => Layout.block (⟨2, ![1024, 1024]⟩ : Shape) (⟨2, ![4096, 1024]⟩ : Shape) 0 4 d x (by decide))
        (fun d => Layout.block (⟨2, ![1024, 4096]⟩ : Shape) (⟨2, ![4096, 4096]⟩ : Shape) 0 4 d y (by decide)) c
      = Layout.block (⟨2, ![256, 4096]⟩ : Shape) (⟨2, ![1024, 4096]⟩ : Shape) 0 4 c (product x y) (by decide) := by
  funext i
  rw [outAt_sum, Layout.block_apply, product_at, sum_rows]
  refine Finset.sum_congr rfl fun d _ => Finset.sum_congr rfl fun k _ => ?_
  refine (congrArg₂ (fun a b : EReal => a * b) (x_block x d k (rowOf c (i 0))) (y_block y d k (i 1))).trans ?_
  refine congrArg₂ (fun r l => x (ix2 (wholeRow d k) r) * y (ix2 (wholeRow d k) l)) (Fin.ext ?_) (Fin.ext ?_)
  · -- the row
    rw [Layout.Tiles.idx_val]
    show 256 * c.val + (i 0).val = c.val * 256 + (i 0).val; omega
  · -- the column
    rw [Layout.Tiles.idx_val]
    rfl

end Cert.Products

end
-- ==== Proof.lean ====
/-
# The certificate

The kernel keeps its arguments and ends with every counter at zero, at the machine's floats and at the ideal ones; so does
the reference; and at the ideal floats every device's result is its block of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Adequacy
public import Idealize.ShloMosaic.Init

@[expose] public section

noncomputable section

namespace Cert.Proof

open Idealize.ShloMosaic Idealize.SL.Sem

/-- The kernel at the machine's floats: its arguments are unchanged, and every counter ends at zero. -/
theorem frame_kernel : Cert.quiescent_Kernel := by
  intro m ρ _
  exact (θ_run Cert.Kernel.defs _ _).mono (fun _ h => ⟨fun c => ⟨(h.1 c (0 : Fin 3)).trans (Cert.KernelProof.final_x m ρ c),
    (h.1 c (1 : Fin 3)).trans (Cert.KernelProof.final_y m ρ c)⟩, h.2⟩) (Cert.KernelProof.run_main (F := Bits) m ρ)

/-- The same at the ideal floats. -/
theorem frame_ideal : Cert.quiescent_KernelIdeal := by
  intro m ρ _
  exact (θ_run Cert.KernelIdeal.defs _ _).mono (fun _ h => ⟨fun c => ⟨(h.1 c (0 : Fin 3)).trans (Cert.KernelIdealProof.final_x m ρ c),
    (h.1 c (1 : Fin 3)).trans (Cert.KernelIdealProof.final_y m ρ c)⟩, h.2⟩) (Cert.KernelIdealProof.run_main (F := Ideal) m ρ)

/-- The reference: its arguments are unchanged, and it has no counter. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- From memories whose blocks agree, each device's result is its block of the reference's. -/
theorem algebraic : Cert.algebraic_KernelIdeal_ReferenceIdeal := by
  intro m ρ m' ρ' _ hagree
  refine ⟨Cert.Products.product (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c (2 : Fin 3)).trans ?_,
      (h.1 c (0 : Fin 3)).trans (Cert.KernelIdealProof.final_x m ρ c), (h.1 c (1 : Fin 3)).trans (Cert.KernelIdealProof.final_y m ρ c)⟩)
      (Cert.KernelIdealProof.run_main (F := Ideal) m ρ)
    rw [Cert.Products.final_out,
      show Cert.KernelIdealProof.xOf m ρ = _ from funext fun d => (Cert.Products.xOf_eq m ρ d).trans (hagree d).1,
      show Cert.KernelIdealProof.yOf m ρ = _ from funext fun d => (Cert.Products.yOf_eq m ρ d).trans (hagree d).2]
    exact Cert.Products.outAt_block_of _ _ c
  · exact (θ_run Cert.ReferenceIdeal.defs _ _).mono (fun _ h => h 0) (Cert.ReferenceIdeal.Value.run (F := Ideal) m' ρ')

/-- All the claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
